-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_norm [hPre_positive_norm : Cert.Pre_positive_norm.Facts] (m : (ℓ : Loc Cert.KernelIdeal.nD Cert.KernelIdeal.τ Cert.KernelIdeal.sig) → Buf (Elt Ideal) ℓ) : Prop :=
  ∀ c : Dev Cert.KernelIdeal.nD,
    (Cert.Pre_positive_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_norm [hPre_positive_norm : Cert.Pre_positive_norm.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_norm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_positive_norm [hKernelIdeal : Cert.KernelIdeal.Facts] [hPre_positive_norm : Cert.Pre_positive_norm.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_norm m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_positive_norm [hReferenceIdeal : Cert.ReferenceIdeal.Facts] [hPre_positive_norm : Cert.Pre_positive_norm.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_norm m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_positive_norm [hKernelIdeal : Cert.KernelIdeal.Facts] [hReferenceIdeal : Cert.ReferenceIdeal.Facts] [hPre_positive_norm : Cert.Pre_positive_norm.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_norm m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_positive_norm : Cert.Pre_positive_norm.Facts),
    quiescent_Kernel (hKernel := hKernel)
    ∧ quiescent_KernelIdeal (hKernelIdeal := hKernelIdeal)
    ∧ quiescent_KernelIdeal_pre_positive_norm (hKernelIdeal := hKernelIdeal) (hPre_positive_norm := hPre_positive_norm)
    ∧ quiescent_ReferenceIdeal (hReferenceIdeal := hReferenceIdeal)
    ∧ quiescent_ReferenceIdeal_pre_positive_norm (hReferenceIdeal := hReferenceIdeal) (hPre_positive_norm := hPre_positive_norm)
    ∧ preserves_Kernel_KernelIdeal
    ∧ algebraic_KernelIdeal_ReferenceIdeal_pre_positive_norm (hKernelIdeal := hKernelIdeal) (hReferenceIdeal := hReferenceIdeal) (hPre_positive_norm := hPre_positive_norm)
-- ==== Pre_positive_norm.lean ====
abbrev S50000x256 : Shape := ⟨2, ![50000, 256]⟩
abbrev S50000x1 : Shape := ⟨2, ![50000, 1]⟩
abbrev S256x1 : Shape := ⟨2, ![256, 1]⟩
abbrev S_ : Shape := ⟨0, ![]⟩

class Facts : Prop where
  reducesTo_S256x1_S_d0_1 : S256x1.ReducesTo [0, 1] S_
  h_S_ : 0 < S_.numel

variable [Facts]

def fn_norm {F : FTy → Type} [FloatOps F] (arg0 : FVec F S256x1 .f32) : FVec F S_ .f32 :=
  let v0 : FVec F S256x1 .f32 := mulf arg0 arg0
  let cst : FVec F S_ .f32 := constant S_ .f32 0x00000000#32
  let v1 : FVec F S_ .f32 := (fun x v => Host.reduceAdd x v reducesTo_S256x1_S_d0_1 h_S_) v0 cst
  let v2 : FVec F S_ .f32 := Host.sqrt v1
  v2

def fn {F : FTy → Type} [FloatOps F] (main_arg0 : FVec F S50000x256 .f32) (main_arg1 : FVec F S50000x1 .f32) (main_arg2 : FVec F S256x1 .f32) : IVec S_ 1 :=
  let main_v0 : FVec F S_ .f32 := fn_norm (F := F) main_arg2
  let main_cst : FVec F S_ .f32 := constant S_ .f32 0x00000000#32
  let main_v1 : IVec S_ 1 := cmpf .ogt main_v0 main_cst
  main_v1
-- ==== Kernel.lean ====
abbrev S50000x256 : Shape := ⟨2, ![50000, 256]⟩
abbrev S50000x1 : Shape := ⟨2, ![50000, 1]⟩
abbrev S256x1 : Shape := ⟨2, ![256, 1]⟩
abbrev S_ : Shape := ⟨0, ![]⟩
abbrev S65536x256 : Shape := ⟨2, ![65536, 256]⟩
abbrev S65536x1 : Shape := ⟨2, ![65536, 1]⟩
abbrev S256x2048 : Shape := ⟨2, ![256, 2048]⟩
abbrev S2048x256 : Shape := ⟨2, ![2048, 256]⟩
abbrev S2048x1 : Shape := ⟨2, ![2048, 1]⟩
abbrev S32x2048 : Shape := ⟨2, ![32, 2048]⟩
abbrev S1x2048 : Shape := ⟨2, ![1, 2048]⟩
abbrev S1x256x1 : Shape := ⟨3, ![1, 256, 1]⟩
abbrev S1 : Shape := ⟨1, ![1]⟩
abbrev S1x1x1 : Shape := ⟨3, ![1, 1, 1]⟩
abbrev S2048 : Shape := ⟨1, ![2048]⟩
abbrev S32x2047 : Shape := ⟨2, ![32, 2047]⟩
abbrev S32x1 : Shape := ⟨2, ![32, 1]⟩
abbrev S32x2046 : Shape := ⟨2, ![32, 2046]⟩
abbrev S32x2 : Shape := ⟨2, ![32, 2]⟩
abbrev S32x2044 : Shape := ⟨2, ![32, 2044]⟩
abbrev S32x4 : Shape := ⟨2, ![32, 4]⟩
abbrev S32x2040 : Shape := ⟨2, ![32, 2040]⟩
abbrev S32x8 : Shape := ⟨2, ![32, 8]⟩
abbrev S32x2032 : Shape := ⟨2, ![32, 2032]⟩
abbrev S32x16 : Shape := ⟨2, ![32, 16]⟩
abbrev S32x2016 : Shape := ⟨2, ![32, 2016]⟩
abbrev S32x32 : Shape := ⟨2, ![32, 32]⟩
abbrev S32x1984 : Shape := ⟨2, ![32, 1984]⟩
abbrev S32x64 : Shape := ⟨2, ![32, 64]⟩
abbrev S32x1920 : Shape := ⟨2, ![32, 1920]⟩
abbrev S32x128 : Shape := ⟨2, ![32, 128]⟩
abbrev S32x1792 : Shape := ⟨2, ![32, 1792]⟩
abbrev S32x256 : Shape := ⟨2, ![32, 256]⟩
abbrev S32x1536 : Shape := ⟨2, ![32, 1536]⟩
abbrev S32x512 : Shape := ⟨2, ![32, 512]⟩
abbrev S32x1024 : Shape := ⟨2, ![32, 1024]⟩
abbrev S16x2048 : Shape := ⟨2, ![16, 2048]⟩
abbrev S16x1024 : Shape := ⟨2, ![16, 1024]⟩
abbrev S16x1536 : Shape := ⟨2, ![16, 1536]⟩
abbrev S16x512 : Shape := ⟨2, ![16, 512]⟩
abbrev S16x1792 : Shape := ⟨2, ![16, 1792]⟩
abbrev S16x256 : Shape := ⟨2, ![16, 256]⟩
abbrev S16x1920 : Shape := ⟨2, ![16, 1920]⟩
abbrev S16x128 : Shape := ⟨2, ![16, 128]⟩
abbrev S16x1984 : Shape := ⟨2, ![16, 1984]⟩
abbrev S16x64 : Shape := ⟨2, ![16, 64]⟩
abbrev S16x2016 : Shape := ⟨2, ![16, 2016]⟩
abbrev S16x32 : Shape := ⟨2, ![16, 32]⟩
abbrev S16x2032 : Shape := ⟨2, ![16, 2032]⟩
abbrev S16x16 : Shape := ⟨2, ![16, 16]⟩
abbrev S16x2040 : Shape := ⟨2, ![16, 2040]⟩
abbrev S16x8 : Shape := ⟨2, ![16, 8]⟩
abbrev S16x2044 : Shape := ⟨2, ![16, 2044]⟩
abbrev S16x4 : Shape := ⟨2, ![16, 4]⟩
abbrev S16x2046 : Shape := ⟨2, ![16, 2046]⟩
abbrev S16x2 : Shape := ⟨2, ![16, 2]⟩
abbrev S16x2047 : Shape := ⟨2, ![16, 2047]⟩
abbrev S16x1 : Shape := ⟨2, ![16, 1]⟩
abbrev S8x2048 : Shape := ⟨2, ![8, 2048]⟩
abbrev S8x1024 : Shape := ⟨2, ![8, 1024]⟩
abbrev S8x1536 : Shape := ⟨2, ![8, 1536]⟩
abbrev S8x512 : Shape := ⟨2, ![8, 512]⟩
abbrev S8x1792 : Shape := ⟨2, ![8, 1792]⟩
abbrev S8x256 : Shape := ⟨2, ![8, 256]⟩
abbrev S8x1920 : Shape := ⟨2, ![8, 1920]⟩
abbrev S8x128 : Shape := ⟨2, ![8, 128]⟩
abbrev S8x1984 : Shape := ⟨2, ![8, 1984]⟩
abbrev S8x64 : Shape := ⟨2, ![8, 64]⟩
abbrev S8x2016 : Shape := ⟨2, ![8, 2016]⟩
abbrev S8x32 : Shape := ⟨2, ![8, 32]⟩
abbrev S8x2032 : Shape := ⟨2, ![8, 2032]⟩
abbrev S8x16 : Shape := ⟨2, ![8, 16]⟩
abbrev S8x2040 : Shape := ⟨2, ![8, 2040]⟩
abbrev S8x8 : Shape := ⟨2, ![8, 8]⟩
abbrev S8x2044 : Shape := ⟨2, ![8, 2044]⟩
abbrev S8x4 : Shape := ⟨2, ![8, 4]⟩
abbrev S8x2046 : Shape := ⟨2, ![8, 2046]⟩
abbrev S8x2 : Shape := ⟨2, ![8, 2]⟩
abbrev S8x2047 : Shape := ⟨2, ![8, 2047]⟩
abbrev S8x1 : Shape := ⟨2, ![8, 1]⟩
abbrev S4x2048 : Shape := ⟨2, ![4, 2048]⟩
abbrev S4x1024 : Shape := ⟨2, ![4, 1024]⟩
abbrev S4x1536 : Shape := ⟨2, ![4, 1536]⟩
abbrev S4x512 : Shape := ⟨2, ![4, 512]⟩
abbrev S4x1792 : Shape := ⟨2, ![4, 1792]⟩
abbrev S4x256 : Shape := ⟨2, ![4, 256]⟩
abbrev S4x1920 : Shape := ⟨2, ![4, 1920]⟩
abbrev S4x128 : Shape := ⟨2, ![4, 128]⟩
abbrev S4x1984 : Shape := ⟨2, ![4, 1984]⟩
abbrev S4x64 : Shape := ⟨2, ![4, 64]⟩
abbrev S4x2016 : Shape := ⟨2, ![4, 2016]⟩
abbrev S4x32 : Shape := ⟨2, ![4, 32]⟩
abbrev S4x2032 : Shape := ⟨2, ![4, 2032]⟩
abbrev S4x16 : Shape := ⟨2, ![4, 16]⟩
abbrev S4x2040 : Shape := ⟨2, ![4, 2040]⟩
abbrev S4x8 : Shape := ⟨2, ![4, 8]⟩
abbrev S4x2044 : Shape := ⟨2, ![4, 2044]⟩
abbrev S4x4 : Shape := ⟨2, ![4, 4]⟩
abbrev S4x2046 : Shape := ⟨2, ![4, 2046]⟩
abbrev S4x2 : Shape := ⟨2, ![4, 2]⟩
abbrev S4x2047 : Shape := ⟨2, ![4, 2047]⟩
abbrev S4x1 : Shape := ⟨2, ![4, 1]⟩
abbrev S2x2048 : Shape := ⟨2, ![2, 2048]⟩
abbrev S2x1024 : Shape := ⟨2, ![2, 1024]⟩
abbrev S2x1536 : Shape := ⟨2, ![2, 1536]⟩
abbrev S2x512 : Shape := ⟨2, ![2, 512]⟩
abbrev S2x1792 : Shape := ⟨2, ![2, 1792]⟩
abbrev S2x256 : Shape := ⟨2, ![2, 256]⟩
abbrev S2x1920 : Shape := ⟨2, ![2, 1920]⟩
abbrev S2x128 : Shape := ⟨2, ![2, 128]⟩
abbrev S2x1984 : Shape := ⟨2, ![2, 1984]⟩
abbrev S2x64 : Shape := ⟨2, ![2, 64]⟩
abbrev S2x2016 : Shape := ⟨2, ![2, 2016]⟩
abbrev S2x32 : Shape := ⟨2, ![2, 32]⟩
abbrev S2x2032 : Shape := ⟨2, ![2, 2032]⟩
abbrev S2x16 : Shape := ⟨2, ![2, 16]⟩
abbrev S2x2040 : Shape := ⟨2, ![2, 2040]⟩
abbrev S2x8 : Shape := ⟨2, ![2, 8]⟩
abbrev S2x2044 : Shape := ⟨2, ![2, 2044]⟩
abbrev S2x4 : Shape := ⟨2, ![2, 4]⟩
abbrev S2x2046 : Shape := ⟨2, ![2, 2046]⟩
abbrev S2x2 : Shape := ⟨2, ![2, 2]⟩
abbrev S2x2047 : Shape := ⟨2, ![2, 2047]⟩
abbrev S2x1 : Shape := ⟨2, ![2, 1]⟩
abbrev S1x1024 : Shape := ⟨2, ![1, 1024]⟩
abbrev S1x1536 : Shape := ⟨2, ![1, 1536]⟩
abbrev S1x512 : Shape := ⟨2, ![1, 512]⟩
abbrev S1x1792 : Shape := ⟨2, ![1, 1792]⟩
abbrev S1x256 : Shape := ⟨2, ![1, 256]⟩
abbrev S1x1920 : Shape := ⟨2, ![1, 1920]⟩
abbrev S1x128 : Shape := ⟨2, ![1, 128]⟩
abbrev S1x1984 : Shape := ⟨2, ![1, 1984]⟩
abbrev S1x64 : Shape := ⟨2, ![1, 64]⟩
abbrev S1x2016 : Shape := ⟨2, ![1, 2016]⟩
abbrev S1x32 : Shape := ⟨2, ![1, 32]⟩
abbrev S1x2032 : Shape := ⟨2, ![1, 2032]⟩
abbrev S1x16 : Shape := ⟨2, ![1, 16]⟩
abbrev S1x2040 : Shape := ⟨2, ![1, 2040]⟩
abbrev S1x8 : Shape := ⟨2, ![1, 8]⟩
abbrev S1x2044 : Shape := ⟨2, ![1, 2044]⟩
abbrev S1x4 : Shape := ⟨2, ![1, 4]⟩
abbrev S1x2046 : Shape := ⟨2, ![1, 2046]⟩
abbrev S1x2 : Shape := ⟨2, ![1, 2]⟩
abbrev S1x2047 : Shape := ⟨2, ![1, 2047]⟩
abbrev S1x1 : Shape := ⟨2, ![1, 1]⟩
abbrev S2048x2048 : Shape := ⟨2, ![2048, 2048]⟩

abbrev nBuf : Space → Nat
  | .hbm => 10
  | .vmem => 9
  | .smem => 0
  | _ => 0

abbrev bufTy : (tb : Table) → Fin (tcTables nBuf tb) → BufTy
  | .hbm, ⟨0, _⟩ => ⟨S50000x256, .f32⟩
  | .hbm, ⟨1, _⟩ => ⟨S50000x1, .f32⟩
  | .hbm, ⟨2, _⟩ => ⟨S256x1, .f32⟩
  | .hbm, ⟨3, _⟩ => ⟨S_, .i32⟩
  | .hbm, ⟨4, _⟩ => ⟨S_, .f32⟩
  | .hbm, ⟨5, _⟩ => ⟨S65536x256, .f32⟩
  | .hbm, ⟨6, _⟩ => ⟨S_, .i32⟩
  | .hbm, ⟨7, _⟩ => ⟨S_, .f32⟩
  | .hbm, ⟨8, _⟩ => ⟨S65536x1, .f32⟩
  | .hbm, ⟨9, _⟩ => ⟨S256x2048, .f32⟩
  | .local _ .vmem, ⟨0, _⟩ => ⟨S2048x256, .f32⟩
  | .local _ .vmem, ⟨1, _⟩ => ⟨S2048x256, .f32⟩
  | .local _ .vmem, ⟨2, _⟩ => ⟨S2048x1, .f32⟩
  | .local _ .vmem, ⟨3, _⟩ => ⟨S2048x1, .f32⟩
  | .local _ .vmem, ⟨4, _⟩ => ⟨S256x1, .f32⟩
  | .local _ .vmem, ⟨5, _⟩ => ⟨S256x2048, .f32⟩
  | .local _ .vmem, ⟨6, _⟩ => ⟨S32x2048, .f32⟩
  | .local _ .vmem, ⟨7, _⟩ => ⟨S1x2048, .i32⟩
  | .local _ .vmem, ⟨8, _⟩ => ⟨S1x2048, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let v33 : Index := Scalar.indexCast arg0
  let c0_10 : Index := 0#32
  ![v33.toNat, 0]
def k0_cond3 (i : grid0.Coords) : BitVec 1 :=
  let arg0 : BitVec 32 := BitVec.ofNat 32 (i 0).val
  let c32_i32_1 : BitVec 32 := 32#32
  let v6 : BitVec 1 := Scalar.cmpi .sge arg0 c32_i32_1
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c32_i32_10 : BitVec 32 := 32#32
  let v27 : BitVec 1 := Scalar.cmpi .eq arg0 c32_i32_10
  let v28 : BitVec 32 := Scalar.extui v27
  let c0_i32_11 : BitVec 32 := 0#32
  let v29 : BitVec 1 := Scalar.cmpi .ne v28 c0_i32_11
  v29

def k0_cond5 (i : grid0.Coords) : BitVec 1 :=
  let arg0 : BitVec 32 := BitVec.ofNat 32 (i 0).val
  let c32_i32_12 : BitVec 32 := 32#32
  let v30 : BitVec 1 := Scalar.cmpi .sgt arg0 c32_i32_12
  let v31 : BitVec 32 := Scalar.extui v30
  let c0_i32_13 : BitVec 32 := 0#32
  let v32 : BitVec 1 := Scalar.cmpi .ne v31 c0_i32_13
  v32

def cc0_transform_0 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S50000x256 : Shape := ⟨2, ![50000, 256]⟩
abbrev S50000x1 : Shape := ⟨2, ![50000, 1]⟩
abbrev S256x1 : Shape := ⟨2, ![256, 1]⟩
abbrev S_ : Shape := ⟨0, ![]⟩
abbrev S50000 : Shape := ⟨1, ![50000]⟩
abbrev S2048 : Shape := ⟨1, ![2048]⟩
abbrev S2048x1 : Shape := ⟨2, ![2048, 1]⟩
abbrev S2048x256 : Shape := ⟨2, ![2048, 256]⟩
abbrev S256x2048 : Shape := ⟨2, ![256, 2048]⟩

abbrev nBuf : Space → Nat
  | .hbm => 37
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x1, .f32⟩
  | .hbm, ⟨2, _⟩ => ⟨S256x1, .f32⟩
  | .hbm, ⟨3, _⟩ => ⟨S50000x1, .f32⟩
  | .hbm, ⟨4, _⟩ => ⟨S256x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S50000x1, .f32⟩
  | .hbm, ⟨9, _⟩ => ⟨S50000x1, .f32⟩
  | .hbm, ⟨10, _⟩ => ⟨S50000x1, .f32⟩
  | .hbm, ⟨11, _⟩ => ⟨S50000, .f32⟩
  | .hbm, ⟨12, _⟩ => ⟨S2048, .f32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S2048x1, .i32⟩
  | .hbm, ⟨22, _⟩ => ⟨S2048x256, .f32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S2048x1, .i32⟩
  | .hbm, ⟨31, _⟩ => ⟨S2048, .f32⟩
  | .hbm, ⟨32, _⟩ => ⟨S2048x1, .f32⟩
  | .hbm, ⟨33, _⟩ => ⟨S2048x1, .f32⟩
  | .hbm, ⟨34, _⟩ => ⟨S2048x256, .f32⟩
  | .hbm, ⟨35, _⟩ => ⟨S2048x256, .f32⟩
  | .hbm, ⟨36, _⟩ => ⟨S256x2048, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_values : Ref sig .tc := ⟨.hbm, 12, rfl⟩
abbrev main_indices : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Proof.Sort.lean ====
/-
  The selection written as a program over whole vectors: compare-and-exchange stages on a block of rows of 2048 entries, each entry a
  score with the index it came from. `stage` is one exchange at distance `2 ^ s` along every row; `merge` runs the distances down to
  one; `levels` are the levels of the sort; `fold` keeps, of two halves of the rows, the better entry place by place. `topk` is
  the whole selection of the printed kernel: 32 rows sorted (16 descending, 16 ascending), then five folds each followed by a merge.
-/
module

public import Idealize.ShloMosaic.PureOps

@[expose] public section

noncomputable section

namespace Cert.TopK

open Idealize.ShloMosaic

variable {F : FTy → Type} [FloatOps F]

/-- `r` rows of `w` entries. -/
abbrev Blk (r w : Nat) : Shape := ⟨2, ![r, w]⟩

/-- Scores and their indices, `r` rows of 2048. -/
abbrev Pair (F : FTy → Type) (r : Nat) : Type := FVec F (Blk r 2048) .f32 × IVec (Blk r 2048) 32

theorem iotas0 (r : Nat) : (Blk r 2048).Iotas .tc 32 [0] :=
  ⟨List.nodup_singleton _, fun _ => ⟨.inr rfl, le_refl 2⟩, fun h => absurd rfl h⟩
theorem iotas1 (r : Nat) : (Blk r 2048).Iotas .tc 32 [1] :=
  ⟨List.nodup_singleton _, fun _ => ⟨.inr rfl, le_refl 2⟩, fun h => absurd rfl h⟩

/-- The row numbers and the column numbers. -/
def rows (r : Nat) : IVec (Blk r 2048) 32 := iota .tc (Blk r 2048) 32 [0] (iotas0 r)
def cols (r : Nat) : IVec (Blk r 2048) 32 := iota .tc (Blk r 2048) 32 [1] (iotas1 r)

theorem slices (r r' o p w w' : Nat) (h0 : p + r' ≤ r) (h1 : o + w' ≤ w) : (Blk r w).Slices ![p, o] (Blk r' w') :=
  ⟨rfl, fun a => by
    match a with
    | ⟨0, _⟩ => exact h0
    | ⟨1, _⟩ => exact h1⟩

theorem concats (r a b w : Nat) (h : a + b = w) : Shape.Concatenates [Blk r a, Blk r b] (Blk r w) 1 :=
  ⟨le_refl 2, fun s hs => by
    rcases List.mem_cons.mp hs with rfl | hs
    · exact ⟨rfl, fun b hb => by
        match b with
        | ⟨0, _⟩ => rfl
        | ⟨1, _⟩ => exact absurd rfl hb⟩
    · rcases List.mem_cons.mp hs with rfl | hs
      · exact ⟨rfl, fun b hb => by
          match b with
          | ⟨0, _⟩ => rfl
          | ⟨1, _⟩ => exact absurd rfl hb⟩
      · exact absurd hs List.not_mem_nil,
   by show a + (b + 0) = w; omega⟩

/-- Every row turned left by `d`: the entry at column `c` is the one at `c + d`, cyclically. -/
def rollL {α : Type} (r d : Nat) (hd : d ≤ 2048) (v : (Blk r 2048).Idx → α) : (Blk r 2048).Idx → α :=
  concatenate (Blk r 2048) 1
    [⟨Blk r (2048 - d), extractStridedSlice (Blk r (2048 - d)) ![0, d] v (slices r r d 0 2048 (2048 - d) (by omega) (by omega))⟩,
     ⟨Blk r d, extractStridedSlice (Blk r d) ![0, 0] v (slices r r 0 0 2048 d (by omega) (by omega))⟩]
    (concats r (2048 - d) d 2048 (by omega))

/-- Every row turned right by `d`. -/
def rollR {α : Type} (r d : Nat) (hd : d ≤ 2048) (v : (Blk r 2048).Idx → α) : (Blk r 2048).Idx → α :=
  concatenate (Blk r 2048) 1
    [⟨Blk r d, extractStridedSlice (Blk r d) ![0, 2048 - d] v (slices r r (2048 - d) 0 2048 d (by omega) (by omega))⟩,
     ⟨Blk r (2048 - d), extractStridedSlice (Blk r (2048 - d)) ![0, 0] v (slices r r 0 0 2048 (2048 - d) (by omega) (by omega))⟩]
    (concats r d (2048 - d) 2048 (by omega))

/-- The columns whose bit `s` is clear. -/
def clear (r s : Nat) : IVec (Blk r 2048) 1 :=
  cmpi .eq (andi (cols r) (broadcast (Blk r 2048) (BitVec.ofNat 32 (2 ^ s)))) (broadcast (Blk r 2048) 0#32)

/-- Every vector's bits all one. -/
def ones (r : Nat) : IVec (Blk r 2048) 1 := constantI (Blk r 2048) 1 1#1

/-- The entry at distance `2 ^ s` (bit `s` of the column turned over). -/
def partner {α : Type} (r s : Nat) (hs : 2 ^ s ≤ 2048) (v : (Blk r 2048).Idx → α) : (Blk r 2048).Idx → α :=
  select (clear r s) (rollL r (2 ^ s) hs v) (rollR r (2 ^ s) hs v)

/-- Where the first entry is the better one: a greater score, or an equal score and a lesser index. -/
def better {r : Nat} (v : FVec F (Blk r 2048) .f32) (ix : IVec (Blk r 2048) 32) (pv : FVec F (Blk r 2048) .f32)
    (pi : IVec (Blk r 2048) 32) : IVec (Blk r 2048) 1 :=
  ori (cmpf .ogt v pv) (andi (cmpf .oeq v pv) (cmpi .slt ix pi))

/-- Where the entry in place is kept: it is the better one exactly where its column is the one that wants the better. -/
def keep {r : Nat} (want low gt : IVec (Blk r 2048) 1) : IVec (Blk r 2048) 1 :=
  xori (xori gt (xori (xori want low) (ones r))) (ones r)

/-- One exchange at distance `2 ^ s`. -/
def stage (r s : Nat) (hs : 2 ^ s ≤ 2048) (want : IVec (Blk r 2048) 1) (P : Pair F r) : Pair F r :=
  (select (keep want (clear r s) (better P.1 P.2 (partner r s hs P.1) (partner r s hs P.2))) P.1 (partner r s hs P.1),
   select (keep want (clear r s) (better P.1 P.2 (partner r s hs P.1) (partner r s hs P.2))) P.2 (partner r s hs P.2))

theorem pow_le (n : Nat) (h : n + 1 ≤ 11) : 2 ^ n ≤ 2048 :=
  le_trans (Nat.pow_le_pow_right (by decide) (show n ≤ 11 by omega)) (by decide)

/-- The exchanges at distances `2 ^ (n - 1)`, …, `2`, `1`. -/
def merge (r : Nat) (want : IVec (Blk r 2048) 1) : (n : Nat) → n ≤ 11 → Pair F r → Pair F r
  | 0, _, P => P
  | n + 1, h, P => merge r want n (Nat.le_of_succ_le h) (stage r n (pow_le n h) want P)

/-- The rows that descend in the sort: the first sixteen of the 32. -/
def down : IVec (Blk 32 2048) 1 := cmpi .slt (rows 32) (broadcast (Blk 32 2048) 16#32)

/-- The direction of level `l` of the sort, at every place. -/
def dir (l : Nat) : IVec (Blk 32 2048) 1 := xori (xori (clear 32 (l + 1)) down) (ones 32)

/-- The first `l` levels of the sort of every row. -/
def levels : (l : Nat) → l ≤ 11 → Pair F 32 → Pair F 32
  | 0, _, P => P
  | l + 1, h, P => merge 32 (dir l) (l + 1) h (levels l (Nat.le_of_succ_le h) P)

/-- The first `h` rows, and the last `h` rows, of `2 * h`. -/
def top {α : Type} (h : Nat) (v : (Blk (2 * h) 2048).Idx → α) : (Blk h 2048).Idx → α :=
  extractStridedSlice (Blk h 2048) ![0, 0] v (slices (2 * h) h 0 0 2048 2048 (by omega) (by omega))
def bot {α : Type} (h : Nat) (v : (Blk (2 * h) 2048).Idx → α) : (Blk h 2048).Idx → α :=
  extractStridedSlice (Blk h 2048) ![h, 0] v (slices (2 * h) h 0 h 2048 2048 (by omega) (by omega))

/-- Row `i` against row `i + h`: place by place the better entry. -/
def fold (h : Nat) (P : Pair F (2 * h)) : Pair F h :=
  (select (better (top h P.1) (top h P.2) (bot h P.1) (bot h P.2)) (top h P.1) (bot h P.1),
   select (better (top h P.1) (top h P.2) (bot h P.1) (bot h P.2)) (top h P.2) (bot h P.2))

/-- The rows that descend after a fold to `2 * h` rows: the first `h`. -/
def half (r h : Nat) : IVec (Blk r 2048) 1 := cmpi .slt (rows r) (broadcast (Blk r 2048) (BitVec.ofNat 32 h))

/-- A fold, then the merge of every row in its direction. -/
def round (h : Nat) (want : IVec (Blk h 2048) 1) (P : Pair F (2 * h)) : Pair F h := merge h want 11 (le_refl 11) (fold h P)

/-- The places' indices: row times 2048 plus column. -/
def places : IVec (Blk 32 2048) 32 := addi (muli (rows 32) (broadcast (Blk 32 2048) 2048#32)) (cols 32)

/-- The selection. -/
def topk (x : FVec F (Blk 32 2048) .f32) : Pair F 1 :=
  round 1 (broadcast (Blk 1 2048) 1#1) (round 2 (half 2 1) (round 4 (half 4 2) (round 8 (half 8 4) (round 16 (half 16 8)
    (levels 11 (le_refl 11) (x, places))))))

end Cert.TopK

end
-- ==== Proof.Body.lean ====
/-
  The kernel's body with the selection folded up. `cc0__fused_kernel`, as printed, carries the stages of the selection one operation after the
  other. `body` is the same program with that part written as `topk` of the scores (Sort.lean), and `kernel_eq_body` says that the
  two are equal.
-/
module

public import proofs.«01_k».proof.Proof.Gen.KernelIdeal.Skeleton
public import proofs.«01_k».proof.Proof.Sort
import Idealize.ShloMosaic.Lib.Tactic

@[expose] public section

noncomputable section

namespace Cert.KernelIdeal.Gen

open Idealize.ShloMosaic Idealize.ShloMosaic.TcCoe Idealize.SL.Sem

variable {F : FTy → Type} [FloatOps F]

/-- Points 0 to 31: the block's scores, stored as row `i` of the scores. -/
def score (i : grid0.Coords) (arg1 : Memref sig .tc .vmem S2048x256 .f32) (harg1 : arg1.IsWhole) (arg2 : Memref sig .tc .vmem
    S2048x1 .f32) (harg2 : arg2.IsWhole) (arg3 : Memref sig .tc .vmem S256x1 .f32) (harg3 : arg3.IsWhole) (arg4 : Memref
    sig .tc .vmem S256x2048 .f32) (harg4 : arg4.IsWhole) (arg5 : Memref sig .tc .vmem S32x2048 .f32) (harg5 :
    arg5.IsWhole) (arg6 : Memref sig .tc .vmem S1x2048 .i32) (harg6 : arg6.IsWhole) (arg7 : Memref sig .tc .vmem S1x2048
    .f32) (harg7 : arg7.IsWhole) (h : k0_cond1 i = 1#1) :
    Prog (TpuEff nD τ sig (Elt F) Λ₀ .tc) PUnit := do
  let v9 : Vec F S256x1 .f32 ← Prog.lift (.load arg3 (Rect.unit (s := S256x1) ![0, 0] S256x1.size inb_S256x1_S256x1_0_0).toLoadRect (View.loadsAt_vmem h_S256x1))
  let v16 : Vec F S2048x256 .f32 ← Prog.lift (.load arg1 (Rect.unit (s := S2048x256) ![0, 0] S2048x256.size inb_S2048x256_S2048x256_0_0).toLoadRect (View.loadsAt_vmem h_S2048x256))
  let v21 : Vec F S2048x1 .f32 ← Prog.lift (.load arg2 (Rect.unit (s := S2048x1) ![0, 0] S2048x1.size inb_S2048x1_S2048x1_0_0).toLoadRect (View.loadsAt_vmem h_S2048x1))
  let _ : Vec F S1x2048 .f32 ← Prog.lift (.load arg5 (Rect.unit (s := S32x2048) (k0_off1 i) S1x2048.size (k0_off1_inb i h)).toLoadRect
      (View.loadsAt_vmem h_S1x2048))
  Prog.lift (.store arg5 (Rect.unit (s := S32x2048) (k0_off1 i) S1x2048.size (k0_off1_inb i h)) (k0_pay1 i v9 v16 v21)
      Finset.univ (View.stores_vmem_bits_univ h_S1x2048 rfl) (.inl rfl))
  pure ⟨⟩

/-- Point 31: the selection, its indices stored with the hyperbolic tangents of its scores. -/
def choose (i : grid0.Coords) (arg1 : Memref sig .tc .vmem S2048x256 .f32) (harg1 : arg1.IsWhole) (arg2 : Memref sig .tc .vmem
    S2048x1 .f32) (harg2 : arg2.IsWhole) (arg3 : Memref sig .tc .vmem S256x1 .f32) (harg3 : arg3.IsWhole) (arg4 : Memref
    sig .tc .vmem S256x2048 .f32) (harg4 : arg4.IsWhole) (arg5 : Memref sig .tc .vmem S32x2048 .f32) (harg5 :
    arg5.IsWhole) (arg6 : Memref sig .tc .vmem S1x2048 .i32) (harg6 : arg6.IsWhole) (arg7 : Memref sig .tc .vmem S1x2048
    .f32) (harg7 : arg7.IsWhole) :
    Prog (TpuEff nD τ sig (Elt F) Λ₀ .tc) PUnit := do
  let x : Vec F S32x2048 .f32 ← Prog.lift (.load arg5 (Rect.unit (s := S32x2048) ![0, 0] S32x2048.size inb_S32x2048_S32x2048_0_0).toLoadRect (View.loadsAt_vmem h_S32x2048))
  let _ : Vec F S1x2048 .i32 ← Prog.lift (.load arg6 (Rect.unit (s := S1x2048) ![0, 0] S1x2048.size inb_S1x2048_S1x2048_0_0).toLoadRect (View.loadsAt_vmem h_S1x2048))
  Prog.lift (.store arg6 (Rect.unit (s := S1x2048) ![0, 0] S1x2048.size inb_S1x2048_S1x2048_0_0) (shapeCast S1x2048 (TopK.topk x).2 shapeCasts_S1x2048_S1x2048) Finset.univ
      (View.stores_vmem_bits_univ h_S1x2048 rfl) (.inl rfl))
  let _ : Vec F S1x2048 .f32 ← Prog.lift (.load arg7 (Rect.unit (s := S1x2048) ![0, 0] S1x2048.size inb_S1x2048_S1x2048_0_0).toLoadRect (View.loadsAt_vmem h_S1x2048))
  Prog.lift (.store arg7 (Rect.unit (s := S1x2048) ![0, 0] S1x2048.size inb_S1x2048_S1x2048_0_0) (k0_pay2 (tanh (TopK.topk x).1)) Finset.univ
      (View.stores_vmem_bits_univ h_S1x2048 rfl) (.inl rfl))
  pure ⟨⟩

/-- Points 32 to 63: the chosen rows of the block, each times its gate, added into the result. -/
def gather (i : grid0.Coords) (arg1 : Memref sig .tc .vmem S2048x256 .f32) (harg1 : arg1.IsWhole) (arg2 : Memref sig .tc .vmem
    S2048x1 .f32) (harg2 : arg2.IsWhole) (arg3 : Memref sig .tc .vmem S256x1 .f32) (harg3 : arg3.IsWhole) (arg4 : Memref
    sig .tc .vmem S256x2048 .f32) (harg4 : arg4.IsWhole) (arg5 : Memref sig .tc .vmem S32x2048 .f32) (harg5 :
    arg5.IsWhole) (arg6 : Memref sig .tc .vmem S1x2048 .i32) (harg6 : arg6.IsWhole) (arg7 : Memref sig .tc .vmem S1x2048
    .f32) (harg7 : arg7.IsWhole) :
    Prog (TpuEff nD τ sig (Elt F) Λ₀ .tc) PUnit := do
  let v9 : Vec F S1x2048 .i32 ← Prog.lift (.load arg6 (Rect.unit (s := S1x2048) ![0, 0] S1x2048.size inb_S1x2048_S1x2048_0_0).toLoadRect (View.loadsAt_vmem h_S1x2048))
  let v10 : Vec F S1x2048 .f32 ← Prog.lift (.load arg7 (Rect.unit (s := S1x2048) ![0, 0] S1x2048.size inb_S1x2048_S1x2048_0_0).toLoadRect (View.loadsAt_vmem h_S1x2048))
  let v23 : Vec F S2048x256 .f32 ← Prog.lift (.load arg1 (Rect.unit (s := S2048x256) ![0, 0] S2048x256.size inb_S2048x256_S2048x256_0_0).toLoadRect (View.loadsAt_vmem h_S2048x256))
  if k0_cond4 i = 1#1 then do
    let _ : Vec F S256x2048 .f32 ← Prog.lift (.load arg4 (Rect.unit (s := S256x2048) ![0, 0] S256x2048.size inb_S256x2048_S256x2048_0_0).toLoadRect (View.loadsAt_vmem h_S256x2048))
    Prog.lift (.store arg4 (Rect.unit (s := S256x2048) ![0, 0] S256x2048.size inb_S256x2048_S256x2048_0_0) (k0_pay3 i v9 v10 v23) Finset.univ
      (View.stores_vmem_bits_univ h_S256x2048 rfl) (.inl rfl))
    pure ⟨⟩
  else do
    pure ⟨⟩
  if k0_cond5 i = 1#1 then do
    let v33 : Vec F S256x2048 .f32 ← Prog.lift (.load arg4 (Rect.unit (s := S256x2048) ![0, 0] S256x2048.size inb_S256x2048_S256x2048_0_0).toLoadRect (View.loadsAt_vmem h_S256x2048))
    let _ : Vec F S256x2048 .f32 ← Prog.lift (.load arg4 (Rect.unit (s := S256x2048) ![0, 0] S256x2048.size inb_S256x2048_S256x2048_0_0).toLoadRect (View.loadsAt_vmem h_S256x2048))
    Prog.lift (.store arg4 (Rect.unit (s := S256x2048) ![0, 0] S256x2048.size inb_S256x2048_S256x2048_0_0) (k0_pay4 i v9 v10 v23 v33) Finset.univ
      (View.stores_vmem_bits_univ h_S256x2048 rfl) (.inl rfl))
    pure ⟨⟩
  else do
    pure ⟨⟩
  pure ⟨⟩

/-- Whether the point is the 32nd. -/
def last1 (i : grid0.Coords) : BitVec 1 :=
  Scalar.cmpi .ne (Scalar.extui (Scalar.cmpi .eq (BitVec.ofNat 32 (i 0).val) 31#32) : BitVec 32) 0#32

/-- The kernel's body. -/
def body (i : grid0.Coords) (arg1 : Memref sig .tc .vmem S2048x256 .f32) (harg1 : arg1.IsWhole) (arg2 : Memref sig .tc .vmem
    S2048x1 .f32) (harg2 : arg2.IsWhole) (arg3 : Memref sig .tc .vmem S256x1 .f32) (harg3 : arg3.IsWhole) (arg4 : Memref
    sig .tc .vmem S256x2048 .f32) (harg4 : arg4.IsWhole) (arg5 : Memref sig .tc .vmem S32x2048 .f32) (harg5 :
    arg5.IsWhole) (arg6 : Memref sig .tc .vmem S1x2048 .i32) (harg6 : arg6.IsWhole) (arg7 : Memref sig .tc .vmem S1x2048
    .f32) (harg7 : arg7.IsWhole) :
    Prog (TpuEff nD τ sig (Elt F) Λ₀ .tc) PUnit := do
  if h : k0_cond1 i = 1#1 then do
    score i arg1 harg1 arg2 harg2 arg3 harg3 arg4 harg4 arg5 harg5 arg6 harg6 arg7 harg7 h
  else do
    pure ⟨⟩
  if last1 i = 1#1 then do
    choose i arg1 harg1 arg2 harg2 arg3 harg3 arg4 harg4 arg5 harg5 arg6 harg6 arg7 harg7
  else do
    pure ⟨⟩
  if k0_cond3 i = 1#1 then do
    gather i arg1 harg1 arg2 harg2 arg3 harg3 arg4 harg4 arg5 harg5 arg6 harg6 arg7 harg7
  else do
    pure ⟨⟩

/-- The printed kernel is `body`. -/
theorem kernel_eq_body : cc0__fused_kernel (F := F) = body (F := F) := by
  sl_kernel_rfl

end Cert.KernelIdeal.Gen

end
-- ==== Proof.BodyRun.lean ====
/-
  One run of the kernel's body, in each of the four kinds of grid point: what it leaves in the scratch buffers and in the result's
  block, as a function of what it finds.
-/
module

public import proofs.«01_k».proof.Proof.Gen.KernelIdeal.Frame
public import proofs.«01_k».proof.Proof.Body
public import Idealize.ShloMosaic.Lib.Pipeline.Frame
public import Idealize.ShloMosaic.Lib.VecWindow
public import Idealize.ShloMosaic.Lib.Tactic

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Held at contents that read `X`, a memref is owned at `X`. -/
theorem owns_of_read {sp : Space} {s : Shape} {e : EltTy} (c : Dev nD) (a : Memref sig .tc sp s e) (X : s.Idx → Elt F e)
    (f : Buf (Elt F) (a.view.loc (c : Thread nD τ))) (h : a.view.read (Elt F) f = X) :
    (a.view.loc (c : Thread nD τ) ↦[a.view.set]{fullShare} f : sProp 𝕄)
      ⊢ iprop(∃ f, ⌜a.view.read (Elt F) f = X⌝ ∗ (a.view.loc (c : Thread nD τ) ↦[a.view.set]{fullShare} f)) := by
  iintro H; iexists f; isplitr; · ipureintro; exact h
  iexact H

section
variable (c : Dev nD) (i : grid0.Coords) (arg1 : Memref sig .tc .vmem S2048x256 .f32) (harg1 : arg1.IsWhole) (arg2 : Memref sig .tc .vmem S2048x1 .f32)
  (harg2 : arg2.IsWhole) (arg3 : Memref sig .tc .vmem S256x1 .f32) (harg3 : arg3.IsWhole) (arg4 : Memref sig .tc .vmem S256x2048 .f32) (harg4 : arg4.IsWhole)
  (arg5 : Memref sig .tc .vmem S32x2048 .f32) (harg5 : arg5.IsWhole) (arg6 : Memref sig .tc .vmem S1x2048 .i32) (harg6 : arg6.IsWhole)
  (arg7 : Memref sig .tc .vmem S1x2048 .f32) (harg7 : arg7.IsWhole)
  (e : S2048x256.Idx → F .f32) (k : S2048x1.Idx → F .f32) (w : S256x1.Idx → F .f32) (y : S256x2048.Idx → F .f32)
  (x : S32x2048.Idx → F .f32) (ix : S1x2048.Idx → BitVec 32) (g : S1x2048.Idx → F .f32)

/-- The seven operands owned: the blocks, the result's block, the scratch. -/
def held : sProp 𝕄 :=
  iprop(owns (c : Thread nD τ) arg1 fullShare e ∗ owns (c : Thread nD τ) arg2 fullShare k ∗ owns (c : Thread nD τ) arg3 fullShare w
    ∗ owns (c : Thread nD τ) arg4 fullShare y
    ∗ owns (c : Thread nD τ) arg5 fullShare x ∗ owns (c : Thread nD τ) arg6 fullShare ix ∗ owns (c : Thread nD τ) arg7 fullShare g)

/-- The scores after the block's are stored as row `i`. -/
def putRow : S32x2048.Idx → F .f32 := VecWindow.put x (k0_off1 i) S1x2048.size (k0_pay1 i w e k)

/-- The indices the selection stores, and the gates. -/
def chosenIx : S1x2048.Idx → BitVec 32 := shapeCast S1x2048 (TopK.topk x).2 shapeCasts_S1x2048_S1x2048
def chosenGate : S1x2048.Idx → F .f32 := k0_pay2 (tanh (TopK.topk x).1)

/-- Points 0 to 30: the scores stored. -/
theorem run_score (h1 : k0_cond1 i = 1#1) (h2 : ¬last1 i = 1#1) (h3 : ¬k0_cond3 i = 1#1) (K : PUnit → sProp 𝕄) :
    iprop(held c arg1 arg2 arg3 arg4 arg5 arg6 arg7 e k w y x ix g ∗ (held c arg1 arg2 arg3 arg4 arg5 arg6 arg7 e k w y (putRow i e k w x) ix g -∗ K ⟨⟩))
      ⊢ wp frame (wpE (defs₀ (F := F)) Variants.none c none) Set.univ
          (body i arg1 harg1 arg2 harg2 arg3 harg3 arg4 harg4 arg5 harg5 arg6 harg6 arg7 harg7) K := by
  unfold body score held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  sl_exec
  sl_step
  iapply Hk
  isplitl [H1]; · iapply (owns_of_read c arg1 _ _ hf1) $$ H1
  isplitl [H2]; · iapply (owns_of_read c arg2 _ _ hf2) $$ H2
  isplitl [H3]; · iapply (owns_of_read c arg3 _ _ hf3) $$ H3
  isplitl [H4]; · iapply (owns_of_read c arg4 _ _ hf4) $$ H4
  isplitl [H5]
  · iexists _; isplitr; swap; · iexact H5
    ipureintro; unfold putRow; rw [View.read_writes_cons_put _ _ _ _ _ rfl, View.writes_nil, View.readAt_full, View.readAt_full, View.readAt_full, hf1, hf2, hf3, hf5]
  isplitl [H6]; · iapply (owns_of_read c arg6 _ _ hf6) $$ H6
  iapply (owns_of_read c arg7 _ _ hf7) $$ H7

/-- Point 31: the scores stored, then the selection made. -/
theorem run_choose (h1 : k0_cond1 i = 1#1) (h2 : last1 i = 1#1) (h3 : ¬k0_cond3 i = 1#1) (K : PUnit → sProp 𝕄) :
    iprop(held c arg1 arg2 arg3 arg4 arg5 arg6 arg7 e k w y x ix g ∗ (held c arg1 arg2 arg3 arg4 arg5 arg6 arg7 e k w y (putRow i e k w x) (chosenIx (putRow i e k w x)) (chosenGate (putRow i e k w x)) -∗ K ⟨⟩))
      ⊢ wp frame (wpE (defs₀ (F := F)) Variants.none c none) Set.univ
          (body i arg1 harg1 arg2 harg2 arg3 harg3 arg4 harg4 arg5 harg5 arg6 harg6 arg7 harg7) K := by
  unfold body score choose held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  sl_exec
  sl_step
  have hx : arg5.view.read (Elt F) (arg5.view.writes (Elt F) f5 (run_choose.sl.H5_1 c i arg1 arg2 arg3 h1 f1 f2 f3)) = putRow i e k w x := by
    unfold run_choose.sl.H5_1 putRow
    rw [View.read_writes_cons_put _ _ _ _ _ rfl, View.writes_nil, View.readAt_full, View.readAt_full, View.readAt_full, hf1, hf2, hf3, hf5]
  iapply Hk
  isplitl [H1]; · iapply (owns_of_read c arg1 _ _ hf1) $$ H1
  isplitl [H2]; · iapply (owns_of_read c arg2 _ _ hf2) $$ H2
  isplitl [H3]; · iapply (owns_of_read c arg3 _ _ hf3) $$ H3
  isplitl [H4]; · iapply (owns_of_read c arg4 _ _ hf4) $$ H4
  isplitl [H5]
  · iexists _; isplitr; swap; · iexact H5
    ipureintro; exact hx
  isplitl [H6]
  · iexists _; isplitr; swap; · iexact H6
    ipureintro; rw [View.read_writes_full, View.readAt_full, hx]; rfl
  iexists _; isplitr; swap; · iexact H7
  ipureintro; rw [View.read_writes_full, View.readAt_full, hx]; rfl

/-- Point 32: the first block of chosen rows. -/
theorem run_first (h1 : ¬k0_cond1 i = 1#1) (h2 : ¬last1 i = 1#1) (h3 : k0_cond3 i = 1#1) (h4 : k0_cond4 i = 1#1) (h5 : ¬k0_cond5 i = 1#1) (K : PUnit → sProp 𝕄) :
    iprop(held c arg1 arg2 arg3 arg4 arg5 arg6 arg7 e k w y x ix g ∗ (held c arg1 arg2 arg3 arg4 arg5 arg6 arg7 e k w (k0_pay3 i ix g e) x ix g -∗ K ⟨⟩))
      ⊢ wp frame (wpE (defs₀ (F := F)) Variants.none c none) Set.univ
          (body i arg1 harg1 arg2 harg2 arg3 harg3 arg4 harg4 arg5 harg5 arg6 harg6 arg7 harg7) K := by
  unfold body gather held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  sl_exec
  sl_step
  iapply Hk
  isplitl [H1]; · iapply (owns_of_read c arg1 _ _ hf1) $$ H1
  isplitl [H2]; · iapply (owns_of_read c arg2 _ _ hf2) $$ H2
  isplitl [H3]; · iapply (owns_of_read c arg3 _ _ hf3) $$ H3
  isplitl [H4]
  · iexists _; isplitr; swap; · iexact H4
    ipureintro; rw [View.read_writes_full, View.readAt_full, View.readAt_full, View.readAt_full, hf1, hf6, hf7]
  isplitl [H5]; · iapply (owns_of_read c arg5 _ _ hf5) $$ H5
  isplitl [H6]; · iapply (owns_of_read c arg6 _ _ hf6) $$ H6
  iapply (owns_of_read c arg7 _ _ hf7) $$ H7

/-- Points 33 to 63: a further block added. -/
theorem run_add (h1 : ¬k0_cond1 i = 1#1) (h2 : ¬last1 i = 1#1) (h3 : k0_cond3 i = 1#1) (h4 : ¬k0_cond4 i = 1#1) (h5 : k0_cond5 i = 1#1) (K : PUnit → sProp 𝕄) :
    iprop(held c arg1 arg2 arg3 arg4 arg5 arg6 arg7 e k w y x ix g ∗ (held c arg1 arg2 arg3 arg4 arg5 arg6 arg7 e k w (k0_pay4 i ix g e y) x ix g -∗ K ⟨⟩))
      ⊢ wp frame (wpE (defs₀ (F := F)) Variants.none c none) Set.univ
          (body i arg1 harg1 arg2 harg2 arg3 harg3 arg4 harg4 arg5 harg5 arg6 harg6 arg7 harg7) K := by
  unfold body gather held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  sl_exec
  sl_step
  iapply Hk
  isplitl [H1]; · iapply (owns_of_read c arg1 _ _ hf1) $$ H1
  isplitl [H2]; · iapply (owns_of_read c arg2 _ _ hf2) $$ H2
  isplitl [H3]; · iapply (owns_of_read c arg3 _ _ hf3) $$ H3
  isplitl [H4]
  · iexists _; isplitr; swap; · iexact H4
    ipureintro; rw [View.read_writes_full, View.readAt_full, View.readAt_full, View.readAt_full, View.readAt_full, hf1, hf4, hf6, hf7]
  isplitl [H5]; · iapply (owns_of_read c arg5 _ _ hf5) $$ H5
  isplitl [H6]; · iapply (owns_of_read c arg6 _ _ hf6) $$ H6
  iapply (owns_of_read c arg7 _ _ hf7) $$ H7

end

end Cert.KernelIdeal.Gen

end
-- ==== Proof.Run.lean ====
/-
  The kernel's run. Between points the scratch holds the rows of scores stored so far, then what was chosen; the
  result's block holds the blocks added so far. The run leaves the result at the last of these, and the arguments as launched.
-/
module

public import proofs.«01_k».proof.Proof.BodyRun
public import Idealize.ShloMosaic.Lib.Pointwise.Index

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kinds of point -/

theorem is_score : ∀ t : Fin cfg0.N, k0_cond1 (grid0.coords t) = 1#1 ↔ t.val < 32 :=
  (by decide +kernel : ∀ t : Fin grid0.N, k0_cond1 (grid0.coords t) = 1#1 ↔ t.val < 32)
theorem is_last1 : ∀ t : Fin cfg0.N, last1 (grid0.coords t) = 1#1 ↔ t.val = 31 :=
  (by decide +kernel : ∀ t : Fin grid0.N, last1 (grid0.coords t) = 1#1 ↔ t.val = 31)
theorem is_gather : ∀ t : Fin cfg0.N, k0_cond3 (grid0.coords t) = 1#1 ↔ 32 ≤ t.val :=
  (by decide +kernel : ∀ t : Fin grid0.N, k0_cond3 (grid0.coords t) = 1#1 ↔ 32 ≤ t.val)
theorem is_first : ∀ t : Fin cfg0.N, k0_cond4 (grid0.coords t) = 1#1 ↔ t.val = 32 :=
  (by decide +kernel : ∀ t : Fin grid0.N, k0_cond4 (grid0.coords t) = 1#1 ↔ t.val = 32)
theorem is_add : ∀ t : Fin cfg0.N, k0_cond5 (grid0.coords t) = 1#1 ↔ 32 < t.val :=
  (by decide +kernel : ∀ t : Fin grid0.N, k0_cond5 (grid0.coords t) = 1#1 ↔ 32 < t.val)
theorem idle_out : ∀ t : Fin cfg0.N, idle0 3 (grid0.coords t) = decide (t.val < 32) :=
  (by decide +kernel : ∀ t : Fin grid0.N, idle0 3 (grid0.coords t) = decide (t.val < 32))
theorem row_off : ∀ t : Fin cfg0.N, k0_off1 (grid0.coords t) 0 = t.val ∧ k0_off1 (grid0.coords t) 1 = 0 :=
  (by decide +kernel : ∀ t : Fin grid0.N, k0_off1 (grid0.coords t) 0 = t.val ∧ k0_off1 (grid0.coords t) 1 = 0)

section
variable (m : (ℓ : Loc nD τ sig) → Buf (Elt F) ℓ) (ρ : Dev nD → PrngReg)

/-! ## What the points leave -/

/-- The rows and the mask block of point `t`, and the scorer. -/
def embAt (c : Dev nD) (t : Fin cfg0.N) : S2048x256.Idx → F .f32 := iblk m c 0 t
def maskAt (c : Dev nD) (t : Fin cfg0.N) : S2048x1.Idx → F .f32 := iblk m c 1 t
def scorerAt (c : Dev nD) (t : Fin cfg0.N) : S256x1.Idx → F .f32 := iblk m c 2 t

/-- The row of scores of point `t`. -/
def rowAt (c : Dev nD) (t : Fin cfg0.N) : S1x2048.Idx → F .f32 :=
  k0_pay1 (grid0.coords t) (scorerAt m c t) (embAt m c t) (maskAt m c t)

theorem row_lt (y : S32x2048.Idx) : (y 0).val < cfg0.N := lt_of_lt_of_le (y 0).isLt (show 32 ≤ grid0.N by rw [N_0]; decide)

/-- All the scores: row `t` is point `t`'s. -/
def scores (c : Dev nD) : S32x2048.Idx → F .f32 := fun y => rowAt m c ⟨(y 0).val, row_lt y⟩ (ix2 (0 : Fin 1) (y 1 : Fin 2048))

/-- What the selection leaves. -/
def topIx (c : Dev nD) : S1x2048.Idx → BitVec 32 := chosenIx (scores m c)
def topGate (c : Dev nD) : S1x2048.Idx → F .f32 := chosenGate (scores m c)

/-- Point number `n`, taken in the grid. -/
def pt (n : Nat) : Fin cfg0.N := ⟨n % 64, lt_of_lt_of_le (Nat.mod_lt _ (by decide)) (show 64 ≤ grid0.N by rw [N_0])⟩

/-- The result's block after point `32 + n`. -/
def acc (c : Dev nD) : Nat → S256x2048.Idx → F .f32
  | 0 => k0_pay3 (grid0.coords (pt 32)) (topIx m c) (topGate m c) (embAt m c (pt 32))
  | n + 1 => k0_pay4 (grid0.coords (pt (33 + n))) (topIx m c) (topGate m c) (embAt m c (pt (33 + n))) (acc c n)

/-- Between points: the rows of scores stored before point `n`; from point 32 on, what was chosen. -/
def Inv (c : Dev nD) (n : Nat) : sProp 𝕄 :=
  iprop((∃ x : S32x2048.Idx → F .f32, ⌜∀ y : S32x2048.Idx, (y 0).val < n → x y = scores m c y⌝ ∗ owns (c : Thread nD τ) (Memref.whole cc0_scratch0) fullShare x)
    ∗ (∃ x : S1x2048.Idx → BitVec 32, ⌜32 ≤ n → x = topIx m c⌝ ∗ owns (c : Thread nD τ) (Memref.whole cc0_scratch1) fullShare x)
    ∗ (∃ x : S1x2048.Idx → F .f32, ⌜32 ≤ n → x = topGate m c⌝ ∗ owns (c : Thread nD τ) (Memref.whole cc0_scratch2) fullShare x)
    ∗ ∃ r, prngReg c r)

/-- The proof data: the arrays as the region finds them, the blocks left in place, the result's block at `acc`. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => acc m c (t.val - 32)
    | ⟨_ + 4, h⟩ => absurd h (Nat.not_lt.2 (Nat.le_add_left _ _))
  Φ n := Inv m c n.val
  q _ := fullShare
  owed _ := 0

theorem A_eq (c : Dev nD) (w : Fin cfg0.W) : (dats m 0 c).A w = V m c (Pipeline.arrRef spec0 w) := by dsimp only [dats]

/-- Past point 32 the result's block holds what the point before left. -/
theorem before_out (c : Dev nD) (t : Fin cfg0.N) (ht : 32 < t.val) (d) : (dats m 0 c).before 3 t d = acc m c (t.val - 33) := by
  have hN : t.val < 64 := lt_of_lt_of_eq t.isLt N_0
  have hfl : (cfg0.win 3).flush ⟨t.val - 1, Nat.lt_of_le_of_lt (Nat.sub_le _ _) t.isLt⟩ = false := by
    rw [Bool.eq_false_iff]; intro h
    have := (flush0_3 _).mp h
    simp only at this; omega
  have hlive : cfg0.idle 3 (cfg0.grid.coords ⟨t.val - 1, Nat.lt_of_le_of_lt (Nat.sub_le _ _) t.isLt⟩) = false := by
    show idle0 3 (grid0.coords _) = false
    rw [idle_out, decide_eq_false_iff_not]; simp only; omega
  rw [(dats m 0 c).before_of_pos 3 t (by omega) ((cfg0.win 3).fetch_out rfl t), hfl, if_neg Bool.false_ne_true]
  unfold Dat.left; rw [hlive]
  show (dats m 0 c).kept 3 _ d = _
  unfold Dat.kept
  rw [Pipeline.fill_of_clip_none (cfg := cfg0) 3 _ (fun _ => rfl) d ((dats m 0 c).after 3 _), Window.fill_cut]
  show acc m c (t.val - 1 - 32) = _
  rw [show t.val - 1 - 32 = t.val - 33 by omega]

/-- Storing point `t`'s row extends the rows stored. -/
theorem putRow_scores (c : Dev nD) (t : Fin cfg0.N) (x : S32x2048.Idx → F .f32) (hx : ∀ y : S32x2048.Idx, (y 0).val < t.val → x y = scores m c y) :
    ∀ y : S32x2048.Idx, (y 0).val < t.val + 1 →
      putRow (grid0.coords t) (embAt m c t) (maskAt m c t) (scorerAt m c t) x y = scores m c y := by
  intro y hy
  obtain ⟨ho0, ho1⟩ := row_off t
  unfold putRow VecWindow.put
  split
  · rename_i h
    have h0 := (h 0).1
    rw [ho0] at h0
    have e : t = ⟨(y 0).val, row_lt y⟩ := Fin.ext (by simp only; omega)
    unfold scores rowAt
    rw [← e]
    congr 1
    funext a
    match a with
    | ⟨0, _⟩ => exact Fin.ext (by show (y 0).val - k0_off1 (grid0.coords t) 0 = 0; rw [ho0]; omega)
    | ⟨1, _⟩ => exact Fin.ext (by show (y 1).val - k0_off1 (grid0.coords t) 1 = (y 1).val; rw [ho1]; omega)
  · rename_i h
    refine hx y (Nat.lt_of_le_of_ne (Nat.lt_succ_iff.mp hy) fun e => h fun a => ?_)
    match a with
    | ⟨0, _⟩ =>
      show k0_off1 (grid0.coords t) 0 ≤ (y 0).val ∧ (y 0).val < k0_off1 (grid0.coords t) 0 + 1
      rw [ho0]; omega
    | ⟨1, _⟩ =>
      show k0_off1 (grid0.coords t) 1 ≤ (y 1).val ∧ (y 1).val < k0_off1 (grid0.coords t) 1 + 2048
      rw [ho1]; exact ⟨Nat.zero_le _, by have : (y 1).val < 2048 := (y 1).isLt; omega⟩

/-! ## The body at each point -/

/-- The seven operands at point `t`, at given contents. -/
def heldAt (c : Dev nD) (t : Fin cfg0.N) (y : S256x2048.Idx → F .f32) (x : S32x2048.Idx → F .f32) (ix : S1x2048.Idx → BitVec 32)
    (g : S1x2048.Idx → F .f32) : sProp 𝕄 :=
  held c (win0_0.stage (cfg0.slots t 0)) (win0_1.stage (cfg0.slots t 1)) (win0_2.stage (cfg0.slots t 2)) (win0_3.stage (cfg0.slots t 3))
    (Memref.whole cc0_scratch0) (Memref.whole cc0_scratch1) (Memref.whole cc0_scratch2)
    (embAt m c t) (maskAt m c t) (scorerAt m c t) y x ix g

/-- What is found and left in the result's block and the scratch at point `t`. -/
def Step (c : Dev nD) (t : Fin cfg0.N) (y : S256x2048.Idx → F .f32) (x : S32x2048.Idx → F .f32) (ix : S1x2048.Idx → BitVec 32)
    (g : S1x2048.Idx → F .f32) : Prop :=
  (∀ z : S32x2048.Idx, (z 0).val < t.val → x z = scores m c z) ∧ (32 ≤ t.val → ix = topIx m c) ∧ (32 ≤ t.val → g = topGate m c)
    ∧ (32 < t.val → y = acc m c (t.val - 33))

def Stepped (c : Dev nD) (t : Fin cfg0.N) (y y' : S256x2048.Idx → F .f32) (x' : S32x2048.Idx → F .f32) (ix' : S1x2048.Idx → BitVec 32)
    (g' : S1x2048.Idx → F .f32) : Prop :=
  (∀ z : S32x2048.Idx, (z 0).val < t.val + 1 → x' z = scores m c z) ∧ (32 ≤ t.val + 1 → ix' = topIx m c)
    ∧ (32 ≤ t.val + 1 → g' = topGate m c) ∧ (t.val < 32 → y' = y) ∧ (32 ≤ t.val → y' = acc m c (t.val - 32))

theorem full_scores (c : Dev nD) (x : S32x2048.Idx → F .f32) (n : Nat) (hn : 32 ≤ n)
    (hx : ∀ z : S32x2048.Idx, (z 0).val < n → x z = scores m c z) : x = scores m c :=
  funext fun z => hx z (lt_of_lt_of_le (show (z 0).val < 32 from (z 0).isLt) hn)

theorem pt_val (t : Fin cfg0.N) (n : Nat) (h : n = t.val) : pt n = t := by
  have hN : t.val < 64 := lt_of_lt_of_eq t.isLt N_0
  refine Fin.ext ?_
  show n % 64 = t.val
  omega

/-- The body at point `t`: from what is found to what is left. -/
theorem run_point (c : Dev nD) (t : Fin cfg0.N) (y : S256x2048.Idx → F .f32) (x : S32x2048.Idx → F .f32) (ix : S1x2048.Idx → BitVec 32)
    (g : S1x2048.Idx → F .f32) (h : Step m c t y x ix g) :
    ∃ y' x' ix' g', Stepped m c t y y' x' ix' g' ∧ ∀ K : PUnit → sProp 𝕄,
      iprop(heldAt m c t y x ix g ∗ (heldAt m c t y' x' ix' g' -∗ K ⟨⟩))
        ⊢ wp frame (wpE (defs₀ (F := F)) Variants.none c none) Set.univ (bodyAt0 t) K := by
  obtain ⟨hx, hix, hg, hy⟩ := h
  unfold bodyAt0 heldAt
  rw [kernel_eq_body]
  rcases lt_trichotomy t.val 31 with ht | ht | ht
  · refine ⟨y, putRow (grid0.coords t) (embAt m c t) (maskAt m c t) (scorerAt m c t) x, ix, g,
      ⟨putRow_scores m c t x hx, fun h => by omega, fun h => by omega, fun _ => rfl, fun h => by omega⟩, fun K => ?_⟩
    exact run_score _ _ _ _ _ _ _ _ _ _ _ _ _ _ _ _ _ _ _ _ _ _ _ ((is_score t).mpr (by omega)) (fun h => by have := (is_last1 t).mp h; omega)
      (fun h => by have := (is_gather t).mp h; omega) K
  · have hf := putRow_scores m c t x hx
    have e := full_scores m c _ _ (by omega) hf
    refine ⟨y, putRow (grid0.coords t) (embAt m c t) (maskAt m c t) (scorerAt m c t) x, _, _,
      ⟨hf, fun h => ?_, fun h => ?_, fun _ => rfl, fun h => by omega⟩, fun K =>
        run_choose _ _ _ _ _ _ _ _ _ _ _ _ _ _ _ _ _ _ _ _ _ _ _ ((is_score t).mpr (by omega)) ((is_last1 t).mpr ht)
      (fun h => by have := (is_gather t).mp h; omega) K⟩
    · unfold topIx; rw [e]
    · unfold topGate; rw [e]
  · have h1 : ¬k0_cond1 (grid0.coords t) = 1#1 := fun h => by have := (is_score t).mp h; omega
    have h2 : ¬last1 (grid0.coords t) = 1#1 := fun h => by have := (is_last1 t).mp h; omega
    have h3 := (is_gather t).mpr (show 32 ≤ t.val by omega)
    obtain rfl := hix (by omega)
    obtain rfl := hg (by omega)
    by_cases h32 : t.val = 32
    · refine ⟨_, x, _, _, ⟨fun z _ => hx z (lt_of_lt_of_eq (show (z 0).val < 32 from (z 0).isLt) h32.symm), fun _ => rfl, fun _ => rfl, fun h => by omega, fun _ => ?_⟩, fun K =>
        run_first _ _ _ _ _ _ _ _ _ _ _ _ _ _ _ _ _ _ _ _ _ _ _ h1 h2 h3 ((is_first t).mpr h32) (fun h => by have := (is_add t).mp h; omega) K⟩
      rw [h32]; show _ = k0_pay3 _ _ _ _
      rw [pt_val t 32 h32.symm]
    · have h33 : 32 < t.val := by omega
      obtain rfl := hy h33
      refine ⟨_, x, _, _, ⟨fun z _ => hx z (lt_trans (show (z 0).val < 32 from (z 0).isLt) h33), fun _ => rfl, fun _ => rfl, fun h => by omega, fun _ => ?_⟩, fun K =>
        run_add _ _ _ _ _ _ _ _ _ _ _ _ _ _ _ _ _ _ _ _ _ _ _ h1 h2 h3 (fun h => h32 ((is_first t).mp h)) ((is_add t).mpr h33) K⟩
      obtain ⟨n, hn⟩ : ∃ n, t.val = 33 + n := ⟨t.val - 33, by omega⟩
      rw [show t.val - 32 = n + 1 by omega, show t.val - 33 = n by omega]
      show _ = k0_pay4 _ _ _ _ _
      rw [pt_val t (33 + n) hn.symm]

def bodyPre (c : Dev nD) (t : Fin cfg0.N) : sProp 𝕄 :=
  iprop(Inv m c t.val ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))
def bodyPost (c : Dev nD) (t : Fin cfg0.N) : sProp 𝕄 :=
  iprop(Inv m c (t.val + 1) ∗ (dats m 0 c).owesAt () t.succ
    ∗ owns (c : Thread nD τ) (win0_0.stage (cfg0.slots t 0)) fullShare (embAt m c t)
    ∗ owns (c : Thread nD τ) (win0_1.stage (cfg0.slots t 1)) fullShare (maskAt m c t)
    ∗ owns (c : Thread nD τ) (win0_2.stage (cfg0.slots t 2)) fullShare (scorerAt m c t)
    ∗ (dats m 0 c).leavesExact 3 t)

/-- What the body leaves in the result's block is what the obligation asks. -/
theorem leaves_out (c : Dev nD) (t : Fin cfg0.N) (d) (y' : S256x2048.Idx → F .f32) (h1 : t.val < 32 → y' = (dats m 0 c).before 3 t d)
    (h2 : 32 ≤ t.val → y' = acc m c (t.val - 32)) :
    (owns (c : Thread nD τ) (win0_3.stage (cfg0.slots t 3)) fullShare y' : sProp 𝕄) ⊢ (dats m 0 c).leavesExact 3 t := by
  have hfl : t.val < 32 → (cfg0.win 3).flush t = false := fun hlt => by
    rw [Bool.eq_false_iff]; intro h
    have := (flush0_3 _).mp h
    omega
  by_cases hlt : t.val < 32
  · have hi : cfg0.idle 3 (cfg0.grid.coords t) = true := by
      show idle0 3 (grid0.coords _) = true
      rw [idle_out, decide_eq_true_eq]; exact hlt
    rw [Dat.leavesExact_idle _ _ _ hi (hfl hlt), h1 hlt]
    iintro H; iexists d; iexact H
  · have hi : cfg0.idle 3 (cfg0.grid.coords t) = false := by
      show idle0 3 (grid0.coords _) = false
      rw [idle_out, decide_eq_false_iff_not]; exact hlt
    unfold Dat.leavesExact
    rw [hi, h2 (by omega)]
    exact .rfl

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl]
  have e0 : ∀ d, (dats m 0 c).before 0 t d = embAt m c t := before0_0_of m (dats m 0 c) (A_eq m c 0) (fun _ => rfl) t
  have e1 : ∀ d, (dats m 0 c).before 1 t d = maskAt m c t := before0_1_of m (dats m 0 c) (A_eq m c 1) (fun _ => rfl) t
  have e2 : ∀ d, (dats m 0 c).before 2 t d = scorerAt m c t := before0_2_of m (dats m 0 c) (A_eq m c 2) (fun _ => rfl) t
  simp only [e0, e1, e2]
  unfold Inv
  iintro ⟨⟨⟨%x, %hx, HX⟩, ⟨%ix, %hix, HI⟩, ⟨%g, %hg, HG⟩, HR⟩, HO, ⟨%_, H0⟩, ⟨%_, H1⟩, ⟨%_, H2⟩, ⟨%d, H3⟩⟩
  obtain ⟨y', x', ix', g', ⟨sx, si, sg, sy1, sy2⟩, hrun⟩ := run_point m c t ((dats m 0 c).before 3 t d) x ix g
    ⟨hx, hix, hg, fun h => before_out m c t h d⟩
  iapply (hrun _)
  unfold heldAt held
  isplitl [H0 H1 H2 H3 HX HI HG]
  · isplitl [H0]; · iexact H0
    isplitl [H1]; · iexact H1
    isplitl [H2]; · iexact H2
    isplitl [H3]; · iexact H3
    isplitl [HX]; · iexact HX
    isplitl [HI]; · iexact HI
    iexact HG
  iintro ⟨H0, H1, H2, H3, HX, HI, HG⟩
  isplitl [HX HI HG HR]
  · isplitl [HX]
    · iexists x'; isplitr; · ipureintro; exact sx
      iexact HX
    isplitl [HI]
    · iexists ix'; isplitr; · ipureintro; exact si
      iexact HI
    isplitl [HG]
    · iexists g'; isplitr; · ipureintro; exact sg
      iexact HG
    iexact HR
  isplitl [HO]; · iexact HO
  isplitl [H0]; · iexact H0
  isplitl [H1]; · iexact H1
  isplitl [H2]; · iexact H2
  iapply (leaves_out m c t d y' sy1 sy2)
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_in (c : Dev nD) : (Pipeline.ΦA cfg0.spec c : sProp 𝕄) ⊢ Inv m c 0 := by
  show (Pipeline.ΦA spec0 c : sProp 𝕄) ⊢ _
  unfold Pipeline.ΦA Inv
  rw [scopedRest0_eq]
  simp only [owns_whole]
  iintro ⟨⟨⟨%x, HX⟩, ⟨%ix, HI⟩, ⟨%g, HG⟩⟩, HR⟩
  isplitl [HX]
  · iexists x; isplitr; · ipureintro; exact fun _ h => absurd h (Nat.not_lt_zero _)
    iexact HX
  isplitl [HI]
  · iexists ix; isplitr; · ipureintro; exact fun h => absurd h (by decide)
    iexact HI
  isplitl [HG]
  · iexists g; isplitr; · ipureintro; exact fun h => absurd h (by decide)
    iexact HG
  iexact HR

theorem inv_out (c : Dev nD) (n : Nat) : Inv m c n ⊢ (Pipeline.ΦA cfg0.spec c : sProp 𝕄) := by
  show _ ⊢ (Pipeline.ΦA spec0 c : sProp 𝕄)
  unfold Pipeline.ΦA Inv
  rw [scopedRest0_eq]
  simp only [owns_whole]
  iintro ⟨⟨%x, %_, HX⟩, ⟨%ix, %_, HI⟩, ⟨%g, %_, HG⟩, HR⟩
  isplitl [HX HI HG]
  · isplitl [HX]; · iexists x; iexact HX
    isplitl [HI]; · iexists ix; iexact HI
    iexists g; iexact HG
  iexact HR

set_option backward.isDefEq.respectTransparency.types false in
/-- Every execution ends, the windows' arrays at what the points left, the other buffers as launched, every counter at zero. -/
theorem run_main :
    θ_run defs (onTc (τ := τ) (main (F := F))) (s₀ m ρ)
      (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := inv_in m) (hout := fun c => inv_out m c _) (Q' := _) (hQ' := fun _ h => h)

end

end Cert.KernelIdeal.Gen

end
-- ==== Proof.Frames.lean ====
/-
  The three frames: the kernel's at both value instances from the one run, and the reference's.
-/
module

public import proofs.«01_k».proof.Proof.Run
public import proofs.«01_k».proof.Defs
public import proofs.«01_k».proof.Proof.Gen.Kernel
public import proofs.«01_k».proof.Proof.Gen.ReferenceIdeal
public import Idealize.ShloMosaic.Adequacy
public import Idealize.ShloMosaic.Init
public import Idealize.ShloMosaic.Lib.StableHlo.RunHlo
public import Idealize.ShloMosaic.Lib.Tactic
public import Idealize.ShloMosaic.Lib.Claim

@[expose] public section

noncomputable section

open Idealize.ShloMosaic Idealize.ShloMosaic.Tactic Idealize.SL.Sem

namespace Cert.KernelIdeal.Gen

/-- What the frame says, at any value instance. -/
def FrameAt (F : FTy → Type) [FloatOps F] : Prop :=
  ∀ (m : (ℓ : Loc nD τ sig) → Buf (Elt F) ℓ) (g : Dev nD → PrngReg),
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_at (F : FTy → Type) [FloatOps F] : FrameAt F := by
  intro m g
  have h := frame_of m g (dats m) (A_eq m) ((θ_run defs _ _).mono (fun _ h => h.1) (run_main m g))
  have h' := (θ_run defs _ _).mono (fun _ h => h.2) (run_main (F := F) m g)
  exact (θ_run defs _ _).mono (fun _ h => h) (θ_run_and h h')

end Cert.KernelIdeal.Gen

namespace Cert.Kernel.Gen

/-- The same of the kernel as printed. -/
def FrameAt (F : FTy → Type) [FloatOps F] : Prop :=
  ∀ (m : (ℓ : Loc nD τ sig) → Buf (Elt F) ℓ) (g : Dev nD → PrngReg),
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frameAt_eq (F : FTy → Type) [FloatOps F] : FrameAt F = Cert.KernelIdeal.Gen.FrameAt F := by sl_kernel_rfl

theorem frame_at (F : FTy → Type) [FloatOps F] : FrameAt F := (frameAt_eq F).mpr (Cert.KernelIdeal.Gen.frame_at F)

end Cert.Kernel.Gen

namespace Cert.Proof

theorem kernel_frame : Cert.quiescent_Kernel := fun m g _ => Cert.Kernel.Gen.frame_at Bits m g

theorem ideal_frame : Cert.quiescent_KernelIdeal := fun m g _ => Cert.KernelIdeal.Gen.frame_at Ideal m g

theorem reference_frame : Cert.quiescent_ReferenceIdeal := by
  intro m g _
  refine (θ_run Cert.ReferenceIdeal.defs _ _).mono (fun r h => ⟨h, sem_eq_zero_of_no_sems (by decide) r.2⟩)
    (?_ : θ_run _ _ _ fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
  hlo_run

end Cert.Proof

end
-- ==== Proof.Keys.lean ====
/-
  The selection at the extended reals, row by row: with the score and the index of a place taken together as one key of a linear order
  (the score first, then the lesser index), an exchange is the exchange of a sorting network on the row's keys, a fold takes the
  greater key place by place, and the whole selection leaves the 2048 greatest keys in descending order.
-/
module

public import proofs.«01_k».proof.Proof.Sort
public import Idealize.ShloMosaic.PureOps.Ideal
public import Idealize.ShloMosaic.Lib.Pointwise.Index
public import Idealize.ShloMosaic.Lib.Pipeline.Value
public import Idealize.ShloMosaic.Lib.SortNet.Fold
public import Idealize.ShloMosaic.Lib.SortNet.Sorts
public import Idealize.ShloMosaic.Lib.SortNet.Printed
public import Mathlib.Data.Prod.Lex

@[expose] public section

noncomputable section

namespace Cert.TopK

open Idealize.ShloMosaic Idealize.ShloMosaic.SortNet

/-! ## Keys -/

/-- Scores in their order, equal scores by the lesser index. -/
abbrev Key : Type := EReal ×ₗ ℤᵒᵈ

def key (v : EReal) (ix : BitVec 32) : Key := toLex (v, OrderDual.toDual ix.toInt)

theorem key_lt (a b : EReal) (i j : BitVec 32) : key a i < key b j ↔ a < b ∨ a = b ∧ j.toInt < i.toInt := by
  unfold key; rw [Prod.Lex.toLex_lt_toLex]; rfl

theorem key_inj {a b : EReal} {i j : BitVec 32} (h : key a i = key b j) : a = b ∧ i = j := by
  have h' : (a, OrderDual.toDual i.toInt) = (b, OrderDual.toDual j.toInt) := toLex_inj.mp h
  exact ⟨(Prod.mk.inj h').1, BitVec.toInt_inj.mp (OrderDual.toDual_inj.mp (Prod.mk.inj h').2)⟩

/-- The keys of row `i`. -/
def keys {r : Nat} (P : Pair Ideal r) (i : Fin r) : Fin (2 ^ 11) → Key := fun j => key (P.1 (ix2 i j)) (P.2 (ix2 i j))

/-! ## The masks at a place -/

section masks
variable {r : Nat} (i : Fin r) (j : Fin (2 ^ 11))

theorem cols_at : cols r (ix2 i (n1 := 2048) j) = BitVec.ofNat 32 j.val := by
  show BitVec.ofNat 32 (0 * 2048 + j.val) = _
  rw [Nat.zero_mul, Nat.zero_add]

theorem rows_at : rows r (ix2 i (n1 := 2048) j) = BitVec.ofNat 32 i.val := by
  show BitVec.ofNat 32 (0 * r + i.val) = _
  rw [Nat.zero_mul, Nat.zero_add]

theorem clear_at (s : Nat) (hs : s < 32) : clear r s (ix2 i (n1 := 2048) j) = BitVec.ofBool (decide (j.val &&& 2 ^ s = 0)) := by
  have hj : j.val < 2 ^ 32 := lt_trans j.isLt (by decide)
  show BitVec.ofBool (IntOp.andi (cols r (ix2 i (n1 := 2048) j)) (BitVec.ofNat 32 (2 ^ s)) == 0#32) = _
  rw [cols_at]
  congr 1
  rw [Bool.eq_iff_iff, beq_iff_eq, decide_eq_true_eq, and_distance_eq_zero_iff hj]
  rw [BitVec.toNat_ofNat, Nat.mod_eq_of_lt (Nat.pow_lt_pow_right (by decide) hs)]

theorem slt_ofNat (a b : Nat) (ha : a < 2 ^ 31) (hb : b < 2 ^ 31) : (BitVec.ofNat 32 a).slt (BitVec.ofNat 32 b) = decide (a < b) := by
  rw [BitVec.slt_eq_decide, Bool.eq_iff_iff, decide_eq_true_eq, decide_eq_true_eq]
  rw [BitVec.toInt_eq_toNat_of_lt (by rw [BitVec.toNat_ofNat]; omega), BitVec.toInt_eq_toNat_of_lt (by rw [BitVec.toNat_ofNat]; omega),
    BitVec.toNat_ofNat, BitVec.toNat_ofNat]
  omega

theorem rows_lt_at (h : Nat) (hr : r < 2 ^ 31) (hh : h < 2 ^ 31) :
    cmpi .slt (rows r) (broadcast (Blk r 2048) (BitVec.ofNat 32 h)) (ix2 i (n1 := 2048) j) = BitVec.ofBool (decide (i.val < h)) := by
  show BitVec.ofBool ((rows r (ix2 i (n1 := 2048) j)).slt (BitVec.ofNat 32 h)) = _
  rw [rows_at, slt_ofNat _ _ (lt_trans i.isLt hr) hh]

end masks

/-! ## The turned rows at a place -/

section turn
variable {α : Type} {r : Nat} (v : (Blk r 2048).Idx → α) (i : Fin r) (j j' : Fin (2 ^ 11))

theorem rollL_at (d : Nat) (hd : d ≤ 2048) (h : j'.val = j.val + d) : rollL r d hd v (ix2 i (n1 := 2048) j) = v (ix2 i (n1 := 2048) j') := by
  have hj' : j'.val < 2048 := j'.isLt
  unfold rollL
  rw [concatenate_pair_apply_left (s₁ := Blk r (2048 - d)) (s₂ := Blk r d) (t := Blk r 2048) 1 _ _ _ _ rfl (ix2 i (n1 := 2048 - d) ⟨j.val, by omega⟩) (fun b => by
    match b with
    | ⟨0, _⟩ => rfl
    | ⟨1, _⟩ => rfl)]
  refine extractStridedSlice_apply _ _ _ _ _ fun a => ?_
  match a with
  | ⟨0, _⟩ => exact (Nat.zero_add _).symm
  | ⟨1, _⟩ => exact h.trans (Nat.add_comm _ _)

theorem rollR_at (d : Nat) (hd : d ≤ 2048) (h : j'.val + d = j.val) : rollR r d hd v (ix2 i (n1 := 2048) j) = v (ix2 i (n1 := 2048) j') := by
  have hj : j.val < 2048 := j.isLt
  unfold rollR
  rw [concatenate_pair_apply_right (s₁ := Blk r d) (s₂ := Blk r (2048 - d)) (t := Blk r 2048) 1 _ _ _ _ rfl rfl (ix2 i (n1 := 2048 - d) ⟨j'.val, by omega⟩) (fun b hb => by
    match b with
    | ⟨0, _⟩ => rfl
    | ⟨1, _⟩ => exact absurd rfl hb) (by exact h)]
  refine extractStridedSlice_apply _ _ _ _ _ fun a => ?_
  match a with
  | ⟨0, _⟩ => exact (Nat.zero_add _).symm
  | ⟨1, _⟩ => exact (Nat.zero_add _).symm

theorem partner_at (s : Nat) (hs : 2 ^ s ≤ 2048) (hs' : s < 11) :
    partner r s hs v (ix2 i (n1 := 2048) j) = v (ix2 i (n1 := 2048) (SortNet.partner 11 s j)) := by
  show Scalar.select (clear r s (ix2 i (n1 := 2048) j)) _ _ = _
  rw [clear_at i j s (by omega), select_ofBool]
  by_cases h : j.val &&& 2 ^ s = 0
  · rw [if_pos (decide_eq_true h)]
    exact rollL_at v i j _ _ hs (partner_val_of_clear hs' j h)
  · rw [if_neg (by simpa using h)]
    obtain ⟨h1, h2⟩ := partner_val_of_set hs' j h
    exact rollR_at v i j _ _ hs (by omega)

end turn

/-! ## An exchange -/

theorem better_at {r : Nat} (v pv : FVec Ideal (Blk r 2048) .f32) (ix pi : IVec (Blk r 2048) 32) (y : (Blk r 2048).Idx) :
    better v ix pv pi y = BitVec.ofBool (decide (key (pv y) (pi y) < key (v y) (ix y))) := by
  show IntOp.ori (Ideal.cmp .ogt (v y) (pv y)) (IntOp.andi (Ideal.cmp .oeq (v y) (pv y)) (BitVec.ofBool ((ix y).slt (pi y)))) = _
  have hc : Ideal.cmp .ogt (v y) (pv y) = BitVec.ofBool (decide (pv y < v y)) := rfl
  have he : Ideal.cmp .oeq (v y) (pv y) = BitVec.ofBool (decide (v y = pv y)) := rfl
  have ho : ∀ a b c : Bool, IntOp.ori (BitVec.ofBool a) (IntOp.andi (BitVec.ofBool b) (BitVec.ofBool c)) = BitVec.ofBool (a || (b && c)) := by decide
  rw [hc, he, ho, BitVec.slt_eq_decide]
  congr 1
  rw [Bool.eq_iff_iff, Bool.or_eq_true, Bool.and_eq_true, decide_eq_true_eq, decide_eq_true_eq, decide_eq_true_eq, decide_eq_true_eq, key_lt,
    @eq_comm EReal (v y)]

theorem keep_at {r : Nat} (want low gt : IVec (Blk r 2048) 1) (y : (Blk r 2048).Idx) (a b g : Bool) (ha : want y = BitVec.ofBool a)
    (hb : low y = BitVec.ofBool b) (hg : gt y = BitVec.ofBool g) : keep want low gt y = BitVec.ofBool (decide (g = decide (a = b))) := by
  show IntOp.xori (IntOp.xori (gt y) (IntOp.xori (IntOp.xori (want y) (low y)) 1#1)) 1#1 = _
  rw [ha, hb, hg, ofBool_xor_xor_one, ofBool_xor_xor_one]

/-- Where two places of a pair want the same, the exchange's own mask is turned over from one to the other. -/
theorem mask_partner {s : Nat} (hs : s < 11) (W : Fin (2 ^ 11) → Bool) (j : Fin (2 ^ 11)) (hW : W (SortNet.partner 11 s j) = W j) :
    decide (W (SortNet.partner 11 s j) = decide ((SortNet.partner 11 s j).val &&& 2 ^ s = 0)) = !decide (W j = decide (j.val &&& 2 ^ s = 0)) := by
  rw [hW]
  by_cases h : j.val &&& 2 ^ s = 0
  · have h' : ¬(SortNet.partner 11 s j).val &&& 2 ^ s = 0 := fun e => by
      rw [partner_and hs j h] at e; exact absurd e (Nat.pos_iff_ne_zero.mp (Nat.two_pow_pos s))
    rw [decide_eq_false h', decide_eq_true h]; cases W j <;> rfl
  · rw [decide_eq_true (partner_and_of_set hs j h), decide_eq_false h]; cases W j <;> rfl

/-- On a row's keys, an exchange is the network's stage. -/
theorem stage_keys {r s : Nat} (hs : 2 ^ s ≤ 2048) (hs' : s < 11) (want : IVec (Blk r 2048) 1) (P : Pair Ideal r) (i : Fin r)
    (W : Fin (2 ^ 11) → Bool) (hW : ∀ j, want (ix2 i (n1 := 2048) j) = BitVec.ofBool (W j)) (hp : ∀ j, W (SortNet.partner 11 s j) = W j) :
    keys (stage r s hs want P) i = Network.apply (SortNet.stage 11 s W) (keys P i) := by
  rw [stage_congr (w' := fun j => decide (W j = decide (j.val &&& 2 ^ s = 0))) fun j hj => by rw [decide_eq_true hj]; cases W j <;> rfl]
  funext j
  rw [apply_stage_select hs' _ (fun j => mask_partner hs' W j (hp j))]
  unfold keys
  show key (Scalar.select (keep want (clear r s) _ (ix2 i (n1 := 2048) j)) _ (partner r s hs P.1 (ix2 i (n1 := 2048) j)))
    (Scalar.select (keep want (clear r s) _ (ix2 i (n1 := 2048) j)) _ (partner r s hs P.2 (ix2 i (n1 := 2048) j))) = _
  rw [keep_at _ _ _ _ _ _ _ (hW j) (clear_at i j s (by omega)) (better_at _ _ _ _ _), partner_at _ _ _ _ _ hs', partner_at _ _ _ _ _ hs',
    select_ofBool, select_ofBool]
  split <;> simp_all

/-- A run of exchanges is the network's. -/
theorem merge_keys {r : Nat} (want : IVec (Blk r 2048) 1) (i : Fin r) (W : Fin (2 ^ 11) → Bool)
    (hW : ∀ j, want (ix2 i (n1 := 2048) j) = BitVec.ofBool (W j)) : ∀ (n : Nat) (h : n ≤ 11) (P : Pair Ideal r),
    (∀ s < n, ∀ j, W (SortNet.partner 11 s j) = W j) →
    keys (merge r want n h P) i = Network.apply ((List.range n).reverse.flatMap fun s => SortNet.stage 11 s W) (keys P i)
  | 0, _, P, _ => rfl
  | n + 1, h, P, hp => by
    rw [List.range_succ, List.reverse_append]
    show keys (merge r want n _ (stage r n _ want P)) i = Network.apply (List.flatMap _ (n :: (List.range n).reverse)) (keys P i)
    rw [List.flatMap_cons, Network.apply_append, merge_keys want i W hW n _ _ (fun s hs => hp s (Nat.lt_succ_of_lt hs)),
      stage_keys _ (by omega) want P i W hW (hp n (Nat.lt_succ_self n))]

/-! ## The sort of the 32 rows -/

theorem dir_at (i : Fin 32) (j : Fin (2 ^ 11)) (l : Nat) (hl : l < 11) :
    dir l (ix2 i (n1 := 2048) j) = BitVec.ofBool (decide (j.val &&& 2 ^ (l + 1) = 0) == decide (i.val < 16)) := by
  show IntOp.xori (IntOp.xori (clear 32 (l + 1) (ix2 i (n1 := 2048) j)) (down (ix2 i (n1 := 2048) j))) 1#1 = _
  unfold down
  rw [clear_at i j (l + 1) (by omega), rows_lt_at i j 16 (by decide) (by decide), ofBool_xor_xor_one]
  rfl

theorem levels_keys (i : Fin 32) : ∀ (l : Nat) (h : l ≤ 11) (P : Pair Ideal 32),
    keys (levels l h P) i = Network.apply (levelsNet 11 (decide (i.val < 16)) l) (keys P i)
  | 0, _, P => rfl
  | l + 1, h, P => by
    rw [levelsNet_succ, Network.apply_append, ← levels_keys i l (Nat.le_of_succ_le h) P]
    exact merge_keys _ i _ (fun j => dir_at i j l (by omega)) (l + 1) h _ fun s hs j => sizeClear_partner (by omega) (by omega) _ j

/-! ## A fold and its merge -/

theorem fold_keys (h : Nat) (P : Pair Ideal (2 * h)) (i : Fin h) (j : Fin (2 ^ 11)) :
    keys (fold h P) i j = max (keys P ⟨i.val, by omega⟩ j) (keys P ⟨h + i.val, by omega⟩ j) := by
  have ht : ∀ {α : Type} (v : (Blk (2 * h) 2048).Idx → α), top h v (ix2 i (n1 := 2048) j) = v (ix2 ⟨i.val, by omega⟩ (n1 := 2048) j) := fun v =>
    extractStridedSlice_apply _ _ _ _ _ fun a => by
      match a with
      | ⟨0, _⟩ => exact (Nat.zero_add _).symm
      | ⟨1, _⟩ => exact (Nat.zero_add _).symm
  have hb : ∀ {α : Type} (v : (Blk (2 * h) 2048).Idx → α), bot h v (ix2 i (n1 := 2048) j) = v (ix2 ⟨h + i.val, by omega⟩ (n1 := 2048) j) := fun v =>
    extractStridedSlice_apply _ _ _ _ _ fun a => by
      match a with
      | ⟨0, _⟩ => rfl
      | ⟨1, _⟩ => exact (Nat.zero_add _).symm
  unfold keys
  show key (Scalar.select (better _ _ _ _ (ix2 i (n1 := 2048) j)) (top h P.1 (ix2 i (n1 := 2048) j)) (bot h P.1 (ix2 i (n1 := 2048) j)))
    (Scalar.select (better _ _ _ _ (ix2 i (n1 := 2048) j)) (top h P.2 (ix2 i (n1 := 2048) j)) (bot h P.2 (ix2 i (n1 := 2048) j))) = _
  rw [better_at, ht, ht, hb, hb, select_ofBool, select_ofBool]
  rw [max_comm, max_def_lt]
  split <;> simp_all

/-- What is known of the rows at one time: row `i` holds the greatest 2048 keys of the list `L i`, the first `d` rows descending, the
    others ascending. -/
def Rows {r : Nat} (P : Pair Ideal r) (L : Nat → List Key) (d : Nat) : Prop :=
  ∀ i : Fin r, (List.ofFn (keys P i)).Perm (topList (2 ^ 11) (L i.val)) ∧ (i.val < d → Antitone (keys P i)) ∧ (d ≤ i.val → Monotone (keys P i))

theorem perm_apply (N : Network (2 ^ 11)) (v : Fin (2 ^ 11) → Key) : (List.ofFn (Network.apply N v)).Perm (List.ofFn v) := by
  obtain ⟨σ, e⟩ := Network.exists_perm N v
  rw [e]
  exact Equiv.Perm.ofFn_comp_perm σ v

theorem levels_rows (P : Pair Ideal 32) (L : Nat → List Key) (hL : ∀ i : Fin 32, L i.val = List.ofFn (keys P i)) :
    Rows (levels 11 (le_refl 11) P) L 16 := by
  intro i
  rw [levels_keys]
  refine ⟨(perm_apply _ _).trans ?_, fun h => ?_, fun h => ?_⟩
  · rw [hL]
    unfold topList
    rw [List.take_of_length_le (by rw [List.length_insertionSort, List.length_ofFn])]
    exact (List.perm_insertionSort _ _).symm
  · rw [decide_eq_true h, ← sortNet_eq_levelsNet]; exact sortNet_apply_antitone 11 _
  · rw [decide_eq_false (Nat.not_lt.mpr h), ← sortNet_eq_levelsNet]; exact sortNet_apply_monotone 11 _

theorem round_rows (h d : Nat) (want : IVec (Blk h 2048) 1)
    (hwant : ∀ (i : Fin h) (j : Fin (2 ^ 11)), want (ix2 i (n1 := 2048) j) = BitVec.ofBool (decide (i.val < d)))
    (P : Pair Ideal (2 * h)) (L : Nat → List Key) (hP : Rows P L h) : Rows (round h want P) (fun i => L i ++ L (h + i)) d := by
  intro i
  obtain ⟨p1, a1, -⟩ := hP ⟨i.val, by omega⟩
  obtain ⟨p2, -, m2⟩ := hP ⟨h + i.val, by omega⟩
  have hA := a1 i.isLt
  have hM := m2 (Nat.le_add_right _ _)
  have e : keys (round h want P) i = Network.apply ((List.range 11).reverse.flatMap fun s => SortNet.stage 11 s fun _ => decide (i.val < d))
      fun j => max (keys P ⟨i.val, by omega⟩ j) (keys P ⟨h + i.val, by omega⟩ j) := by
    unfold round
    rw [merge_keys want i (fun _ => decide (i.val < d)) (hwant i) 11 _ _ fun _ _ _ => rfl]
    congr 1
    funext j
    exact fold_keys h P i j
  obtain ⟨fa, fl⟩ := foldStep 11 _ _ hA hM
  have hp : (List.ofFn fun j => max (keys P ⟨i.val, by omega⟩ j) (keys P ⟨h + i.val, by omega⟩ j)).Perm (topList (2 ^ 11) (L i.val ++ L (h + i.val))) := by
    refine (perm_apply (mergeDescNet 11) _).symm.trans ?_
    rw [fl, topList_perm (p1.append p2), topList_append_topList_topList]
  rw [e]
  refine ⟨(perm_apply _ _).trans hp, fun hlt => ?_, fun hge => ?_⟩
  · rw [decide_eq_true hlt]; exact fa
  · rw [decide_eq_false (Nat.not_lt.mpr hge)]
    exact mergeAscNet_apply_monotone 11 _ (descAsc_max _ _ hA hM)

/-! ## The selection -/

/-- The selection's one row of keys is the 2048 greatest keys of all the rows, in descending order. -/
theorem topk_keys (x : FVec Ideal (Blk 32 2048) .f32) (row : Nat → List Key)
    (hrow : ∀ i : Fin 32, row i.val = List.ofFn (keys (x, places) i)) :
    List.ofFn (keys (topk x) 0) = topList (2 ^ 11) ((List.range 32).flatMap row) := by
  have h5 := levels_rows (x, places) row hrow
  have h4 := round_rows 16 8 _ (fun i j => rows_lt_at i j 8 (by decide) (by decide)) _ _ h5
  have h3 := round_rows 8 4 _ (fun i j => rows_lt_at i j 4 (by decide) (by decide)) _ _ h4
  have h2 := round_rows 4 2 _ (fun i j => rows_lt_at i j 2 (by decide) (by decide)) _ _ h3
  have h1 := round_rows 2 1 _ (fun i j => rows_lt_at i j 1 (by decide) (by decide)) _ _ h2
  have h0 := round_rows 1 1 (broadcast (Blk 1 2048) 1#1) (fun i j => by rw [decide_eq_true i.isLt]; rfl) _ _ h1
  obtain ⟨p, a, -⟩ := h0 0
  have hp : (List.ofFn (keys (topk x) 0)).Perm (topList (2 ^ 11) ((List.range 32).flatMap row)) := by
    refine p.trans (List.Perm.of_eq ?_)
    have e : [0, 16, 8, 24, 4, 20, 12, 28, 2, 18, 10, 26, 6, 22, 14, 30, 1, 17, 9, 25, 5, 21, 13, 29, 3, 19, 11, 27, 7, 23, 15, 31].Perm (List.range 32) := by
      decide
    rw [← topList_perm (e.flatMap_right row)]
    congr 1
    simp only [List.flatMap_cons, List.flatMap_nil, List.append_nil, List.append_assoc]
    rfl
  refine eq_of_perm_of_descending hp ?_ (pairwise_topList _ _)
  exact List.pairwise_ofFn.mpr fun i j hij => a (by decide) (le_of_lt hij)

end Cert.TopK

end
-- ==== Proof.Select.lean ====
/-
  Which rows are selected: the positions of 50000 scores, the greatest first and equal scores by position. The kernel's network over 32
  rows of 2048 places, the last 15536 of them holding the least score there is, and the host's stable sort both give these.
-/
module

public import proofs.«01_k».proof.Proof.Keys
public import Idealize.ShloMosaic.Lib.SortNet.Positions
public import Idealize.ShloMosaic.Lib.SortPrefix

@[expose] public section

noncomputable section

namespace Cert.TopK

open Idealize.ShloMosaic Idealize.ShloMosaic.SortNet

/-- The key of a position: its score, then itself. -/
def entry {N : Nat} (v : Fin N → EReal) (n : Fin N) : Key := key (v n) (BitVec.ofNat 32 n.val)

theorem entry_lt {N : Nat} (hN : N < 2 ^ 31) (v : Fin N → EReal) (a b : Fin N) : entry v a < entry v b ↔ v a < v b ∨ v a = v b ∧ b < a := by
  unfold entry
  have h := slt_ofNat b.val a.val (lt_trans b.isLt hN) (lt_trans a.isLt hN)
  rw [BitVec.slt_eq_decide, decide_eq_decide] at h
  rw [key_lt, h]
  rfl

theorem entry_injective {N : Nat} (hN : N < 2 ^ 31) (v : Fin N → EReal) : Function.Injective (entry v) := by
  intro a b h
  by_contra hne
  have h1 : ¬entry v a < entry v b := by rw [h]; exact lt_irrefl _
  have h2 : ¬entry v b < entry v a := by rw [h]; exact lt_irrefl _
  rw [entry_lt hN] at h1 h2
  rcases lt_or_gt_of_ne hne with l | l <;> rcases lt_trichotomy (v a) (v b) with q | q | q <;> simp_all

/-- The position selected `c`-th. -/
def sel {N : Nat} (v : Fin N → EReal) (c : Fin N) : Fin N := sortedFrom (greaterFirst (entry v)) c

/-! ## The kernel's selection -/

/-- The key at place `n` of the 65536. -/
def place (v : Fin 50000 → EReal) (n : Nat) : Key := key (if h : n < 50000 then v ⟨n, h⟩ else ⊥) (BitVec.ofNat 32 n)

theorem places_at (i : Fin 32) (j : Fin (2 ^ 11)) : places (ix2 i (n1 := 2048) j) = BitVec.ofNat 32 (i.val * 2048 + j.val) := by
  show (rows 32 (ix2 i (n1 := 2048) j)) * 2048#32 + cols 32 (ix2 i (n1 := 2048) j) = _
  rw [rows_at, cols_at, BitVec.ofNat_add, BitVec.ofNat_mul]

theorem ofFn_val {α : Type} (n : Nat) (g : Nat → α) : (List.ofFn fun j : Fin n => g j.val) = (List.range n).map g := by
  rw [List.ofFn_eq_map, ← List.map_coe_finRange_eq_range, List.map_map]; rfl

/-- The rows one after another are the places in order. -/
theorem flatMap_rows {α : Type} (f : Nat → α) (m : Nat) : ∀ n : Nat,
    ((List.range n).flatMap fun q => (List.range m).map fun j => f (q * m + j)) = (List.range (n * m)).map f
  | 0 => by rw [Nat.zero_mul]; rfl
  | n + 1 => by
    rw [List.range_succ, List.flatMap_append, flatMap_rows f m n, Nat.succ_mul, List.range_add, List.map_append, List.map_map]
    simp [Function.comp_def]

theorem topList_place (v : Fin 50000 → EReal) :
    topList (2 ^ 11) ((List.range 65536).map (place v)) = topList (2 ^ 11) (List.ofFn (entry v)) := by
  have e : (List.range 50000).map (place v) = List.ofFn (entry v) := by
    rw [← ofFn_val]
    congr 1
    funext n
    unfold place entry
    rw [dif_pos n.isLt]
  rw [show (65536 : Nat) = 50000 + 15536 from rfl, List.range_add, List.map_append, e]
  refine topList_append_of_le _ _ _ (by rw [List.length_ofFn]; decide) fun s hs a ha => ?_
  obtain ⟨n, hn, rfl⟩ := List.mem_map.mp hs
  obtain ⟨k, hk, rfl⟩ := List.mem_map.mp hn
  obtain ⟨q, rfl⟩ := List.mem_ofFn.mp (mem_of_mem_topList ha)
  have hk' : k < 15536 := List.mem_range.mp hk
  unfold place entry
  rw [dif_neg (by omega)]
  refine le_of_lt ((key_lt _ _ _ _).mpr ?_)
  rcases eq_or_ne (v q) ⊥ with h | h
  · refine Or.inr ⟨h.symm, ?_⟩
    have := slt_ofNat q.val (50000 + k) (lt_trans q.isLt (by decide)) (by omega)
    rw [BitVec.slt_eq_decide, decide_eq_decide] at this
    exact this.mpr (by omega)
  · exact Or.inl (bot_lt_iff_ne_bot.mpr h)

/-- The selection's place `c` holds the score and the position selected `c`-th. -/
theorem topk_sel (x : FVec Ideal (Blk 32 2048) .f32) (v : Fin 50000 → EReal)
    (hx : ∀ (i : Fin 32) (j : Fin 2048), x (ix2 i j) = if h : i.val * 2048 + j.val < 50000 then v ⟨_, h⟩ else ⊥) (c : Fin 2048) :
    (topk x).1 (ix2 (0 : Fin 1) c) = v (sel v (c.castLE (by decide)))
      ∧ (topk x).2 (ix2 (0 : Fin 1) c) = BitVec.ofNat 32 (sel v (c.castLE (by decide))).val := by
  have hk := topk_keys x (fun q => (List.range 2048).map fun j => place v (q * 2048 + j)) fun i => by
    rw [← ofFn_val]
    show _ = List.ofFn _
    congr 1
    funext j
    unfold keys
    show _ = key (x (ix2 i (n1 := 2048) j)) (places (ix2 i (n1 := 2048) j))
    rw [places_at, hx]
    rfl
  rw [flatMap_rows (place v) 2048 32, topList_place] at hk
  have hs := entry_sortedFrom_eq_topList (entry v) (entry_injective (by decide) v) (2 ^ 11) (c.castLE (by decide : 2048 ≤ 50000)) c.isLt
  rw [← hk, List.getElem?_ofFn, dif_pos (show (c.castLE (by decide : 2048 ≤ 50000)).val < 2 ^ 11 from c.isLt)] at hs
  exact key_inj (Option.some.inj hs).symm

/-! ## The host's sort -/

/-- On a list in ascending order, a stable sort by the score alone is the sort by the key. -/
theorem stableSort_entry {N : Nat} (hN : N < 2 ^ 31) (v : Fin N → EReal) : ∀ l : List (Fin N), l.Pairwise (· < ·) →
    stableSort (fun a b => decide (v b < v a)) l = stableSort (greaterFirst (entry v)) l
  | [], _ => rfl
  | a :: l, h => by
    obtain ⟨ha, hl⟩ := List.pairwise_cons.mp h
    show insertBefore _ a (stableSort _ l) = insertBefore _ a (stableSort _ l)
    rw [stableSort_entry hN v l hl]
    refine insertBefore_congr _ _ a _ fun b hb => ?_
    have hab : a < b := ha b ((perm_stableSort _ l).mem_iff.mp hb)
    unfold greaterFirst
    rw [decide_eq_decide, entry_lt hN]
    exact ⟨Or.inl, fun h => h.elim id fun h => absurd h.2 (not_lt_of_gt hab)⟩

theorem sortedFrom_entry {N : Nat} (hN : N < 2 ^ 31) (v : Fin N → EReal) (c : Fin N) : sortedFrom (fun a b => decide (v b < v a)) c = sel v c := by
  unfold sel sortedFrom
  rw [List.get_of_eq (show sortPositions N _ = sortPositions N _ from stableSort_entry hN v _ (List.pairwise_lt_finRange N))]
  rfl

/-- The host's selection: its positions. -/
theorem host_sel {N : Nat} (hc : 2048 ≤ N) (hN : N < 2 ^ 31) (x : FVec Ideal ⟨1, ![N]⟩ .f32) (h : (⟨1, ![N]⟩ : Shape).Slices (fun _ => 0) ⟨1, ![2048]⟩) (c : Fin 2048) :
    (Host.topK ⟨1, ![2048]⟩ 0 (FloatOps.cmpfTotal .gt) x h).2 (ix1 c)
      = BitVec.ofNat 32 (sel (fun n : Fin N => x (ix1 n)) (c.castLE hc)).val := by
  have hi : ∀ (s : Shape) (y : s.Idx → BitVec 32) (h' : s.Slices (fun _ => 0) ⟨1, ![2048]⟩) (k : s.Idx),
      (∀ a : Fin s.rank, (k a).val = c.val) → extractStridedSlice ⟨1, ![2048]⟩ (fun _ => 0) y h' (ix1 c) = y k := fun s y h' k hk =>
    extractStridedSlice_apply _ _ _ _ _ fun a => by
      rw [hk, Nat.zero_add]
      have : ∀ b : Fin 1, (ix1 c b).val = c.val := fun b => by obtain rfl : b = 0 := Subsingleton.elim _ _; rfl
      exact (this _).symm
  have hg : ∀ a b : EReal, (FloatOps.cmpfTotal (F := Ideal) (φ := .f32) .gt a b == 1#1) = decide (b < a) := fun a b => by
    show (BitVec.ofBool (decide (b < a)) == 1#1) = _
    by_cases hab : b < a <;> simp [hab]
  show extractStridedSlice ⟨1, ![2048]⟩ (fun _ => 0) (Host.sort2 ⟨1, ![N]⟩ 0 (fun l r => FloatOps.cmpfTotal (F := Ideal) (φ := .f32) .gt l.1 r.1) x
    (fun i => if hd : 0 < 1 then iotaInDim ⟨1, ![N]⟩ 32 ⟨0, hd⟩ i else 0#32)).2 h (ix1 c) = _
  refine (hi _ _ h (ix1 (c.castLE hc)) fun a => by obtain rfl : a = 0 := Subsingleton.elim _ _; rfl).trans ?_
  rw [← sortedFrom_entry hN]
  unfold Host.sort2
  rw [dif_pos (show 0 < 1 from Nat.one_pos)]
  show BitVec.ofNat 32 (sortedFrom (fun k k' : Fin N => FloatOps.cmpfTotal (F := Ideal) (φ := .f32) .gt (x ((ix1 (c.castLE hc)).along 0 k))
    (x ((ix1 (c.castLE hc)).along 0 k')) == 1#1) (c.castLE hc)).val = _
  have ha : ∀ k : Fin N, (ix1 (c.castLE hc)).along 0 k = ix1 k := fun k => by
    funext b; obtain rfl : b = 0 := Subsingleton.elim _ _; rfl
  simp only [ha, hg]

end Cert.TopK

end
-- ==== Proof.Payload.lean ====
/-
  The three payloads of the kernel's body at an index, at the extended reals: a score, and a block's part of the result.
-/
module

public import proofs.«01_k».proof.Proof.Run
public import proofs.«01_k».proof.Proof.Select
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.ShloMosaic.Tactic

namespace Cert.KernelIdeal.Gen

/-- A score: the product scaled by the reciprocal root of the scorer's square sum, and the mask; past the last row the least number. -/
theorem pay1_apply (i : grid0.Coords) (W : S256x1.Idx → EReal) (E : S2048x256.Idx → EReal) (M : S2048x1.Idx → EReal) (j : Fin 2048) :
    k0_pay1 (F := Ideal) i W E M (ix2 (0 : Fin 1) j) = if (i 0).val * 2048 + j.val < 50000 then
      (∑ x : Fin 256, E (ix2 j x) * W (ix2 x (0 : Fin 1))) * Ideal.rsqrt (∑ x : Fin 256, W (ix2 x (0 : Fin 1)) * W (ix2 x (0 : Fin 1))) + M (ix2 j (0 : Fin 1))
      else ⊥ := by
  have hi : (i 0).val < 64 := (i 0).isLt
  have hc : IntOp.cmpi CmpIPredicate.slt (IntOp.addi (Scalar.muli (BitVec.ofNat 32 (i 0).val) 2048#32) (BitVec.ofNat 32 j.val)) 50000#32
      = BitVec.ofBool (decide ((i 0).val * 2048 + j.val < 50000)) := by
    show BitVec.ofBool ((BitVec.ofNat 32 (i 0).val * 2048#32 + BitVec.ofNat 32 j.val).slt 50000#32) = _
    rw [← BitVec.ofNat_mul, ← BitVec.ofNat_add, Cert.TopK.slt_ofNat _ _ (by omega) (by omega)]
  pointwise [k0_pay1]
  rw [hc, SortNet.select_ofBool]
  simp only [Finset.univ_unique, Finset.sum_singleton, decide_eq_true_eq]
  refine if_congr Iff.rfl rfl ?_
  simp [Ideal.ofBits, Ideal.ieee]

/-- A block's part of the result: each row of the block counts where its number is the chosen one. -/
def part (n : Nat) (ix : S1x2048.Idx → BitVec 32) (g : S1x2048.Idx → EReal) (E : S2048x256.Idx → EReal) (f : Fin 256) (c : Fin 2048) : EReal :=
  ∑ x : Fin 2048, if BitVec.ofNat 32 (n * 2048 + x.val) = ix (ix2 (0 : Fin 1) c) then E (ix2 x f) * g (ix2 (0 : Fin 1) c) else 0

theorem pay3_apply (i : grid0.Coords) (hi : 32 ≤ (i 0).val) (ix : S1x2048.Idx → BitVec 32) (g : S1x2048.Idx → EReal) (E : S2048x256.Idx → EReal) (f : Fin 256) (c : Fin 2048) :
    k0_pay3 (F := Ideal) i ix g E (ix2 f c) = part ((i 0).val - 32) ix g E f c := by
  have hi : (i 0).val < 64 := (i 0).isLt
  have hc : ∀ x : Fin 2048, IntOp.cmpi CmpIPredicate.eq
          (IntOp.addi (Scalar.muli (Scalar.subi (BitVec.ofNat 32 (i 0).val) 32#32) 2048#32) (BitVec.ofNat 32 x.val)) (ix (ix2 (0 : Fin 1) c))
      = BitVec.ofBool (decide (BitVec.ofNat 32 (((i 0).val - 32) * 2048 + x.val) = ix (ix2 (0 : Fin 1) c))) := fun x => by
    show BitVec.ofBool ((BitVec.ofNat 32 (i 0).val - 32#32) * 2048#32 + BitVec.ofNat 32 x.val == _) = _
    obtain ⟨k, hk⟩ := Nat.exists_eq_add_of_le ‹32 ≤ (i 0).val›
    rw [hk, Nat.add_sub_cancel_left, Nat.add_comm 32 k, BitVec.ofNat_add k 32, BitVec.add_sub_cancel, ← BitVec.ofNat_mul, ← BitVec.ofNat_add]
    rfl
  unfold part
  pointwise [k0_pay3]
  refine Finset.sum_congr rfl fun x _ => ?_
  rw [hc, SortNet.select_ofBool]
  simp only [decide_eq_true_eq]

theorem pay4_apply (i : grid0.Coords) (ix : S1x2048.Idx → BitVec 32) (g : S1x2048.Idx → EReal) (E : S2048x256.Idx → EReal) (y : S256x2048.Idx → EReal) (f : Fin 256) (c : Fin 2048) :
    k0_pay4 (F := Ideal) i ix g E y (ix2 f c) = y (ix2 f c) + k0_pay3 (F := Ideal) i ix g E (ix2 f c) := by
  pointwise [k0_pay4]

/-! ## The blocks -/

theorem index_0 : ∀ t : Fin cfg0.N, (win0 0).index t = ![t.val % 32, 0] := by decide +kernel
theorem index_1 : ∀ t : Fin cfg0.N, (win0 1).index t = ![t.val % 32, 0] := by decide +kernel
theorem index_2 : ∀ t : Fin cfg0.N, (win0 2).index t = ![0, 0] := by decide +kernel

/-- The three arguments as launched. -/
def emb (m : (ℓ : Loc nD τ sig) → Buf (Elt Ideal) ℓ) (c : Dev nD) : S50000x256.Idx → EReal := m ((c : Thread nD τ).loc main_arg0)
def mask (m : (ℓ : Loc nD τ sig) → Buf (Elt Ideal) ℓ) (c : Dev nD) : S50000x1.Idx → EReal := m ((c : Thread nD τ).loc main_arg1)
def scorer (m : (ℓ : Loc nD τ sig) → Buf (Elt Ideal) ℓ) (c : Dev nD) : S256x1.Idx → EReal := m ((c : Thread nD τ).loc main_arg2)

variable (m : (ℓ : Loc nD τ sig) → Buf (Elt Ideal) ℓ) (c : Dev nD) (t : Fin cfg0.N)

theorem emb_read (i : Fin 2048) (f : Fin 256) (h : t.val % 32 * 2048 + i.val < 65536) :
    embAt m c t (ix2 i f) = V m c main_v0 (ix2 (⟨t.val % 32 * 2048 + i.val, h⟩ : Fin 65536) f) := by
  unfold embAt
  blk_ext [iblk, index_0 t]

theorem mask_read (i : Fin 2048) (h : t.val % 32 * 2048 + i.val < 65536) :
    maskAt m c t (ix2 i (0 : Fin 1)) = V m c main_v1 (ix2 (⟨t.val % 32 * 2048 + i.val, h⟩ : Fin 65536) (0 : Fin 1)) := by
  unfold maskAt
  blk_ext [iblk, index_1 t]

theorem scorer_read (k : Fin 256) :
    scorerAt m c t (ix2 k (0 : Fin 1)) = m ((c : Thread nD τ).loc main_arg2) (ix2 k (0 : Fin 1)) := by
  unfold scorerAt
  blk_ext [iblk, index_2 t, V_main_arg2]

theorem padded_emb (n : Fin 65536) (f : Fin 256) :
    V m c main_v0 (ix2 n f) = if h : n.val < 50000 then emb m c (ix2 (⟨n.val, h⟩ : Fin 50000) f) else (0 : EReal) := by
  simp only [V, hostOps0, hostOps0_1, hostOps0_2, hostOps0_3, List.flatten_cons, List.flatten_nil, List.append_nil, List.cons_append, List.nil_append]
  entry_read
  show pad S65536x256 ![0, 0] ![15536, 0] ![0, 0] (emb m c) (sitofp (F := Ideal) .f32 (constantI S_ 32 0#32)) pads_S50000x256_S65536x256_0155360_000 h_S_ (ix2 n f) = _
  pointwise
  simp [FloatOps.sitofp]

theorem padded_mask (n : Fin 65536) :
    V m c main_v1 (ix2 n (0 : Fin 1)) = if h : n.val < 50000 then mask m c (ix2 (⟨n.val, h⟩ : Fin 50000) (0 : Fin 1)) else (0 : EReal) := by
  simp only [V, hostOps0, hostOps0_1, hostOps0_2, hostOps0_3, List.flatten_cons, List.flatten_nil, List.append_nil, List.cons_append, List.nil_append]
  entry_read
  show pad S65536x1 ![0, 0] ![15536, 0] ![0, 0] (mask m c) (sitofp (F := Ideal) .f32 (constantI S_ 32 0#32)) pads_S50000x1_S65536x1_0155360_000 h_S_ (ix2 n (0 : Fin 1)) = _
  pointwise
  simp [FloatOps.sitofp]

end Cert.KernelIdeal.Gen

end
-- ==== Proof.Value.lean ====
/-
  What the kernel's three stages compute at an index, at the extended reals.
-/
module

public import proofs.«01_k».proof.Proof.Payload

@[expose] public section

set_option maxRecDepth 16384

noncomputable section

open Idealize.ShloMosaic Idealize.ShloMosaic.TcCoe Idealize.ShloMosaic.Tactic

namespace Cert.KernelIdeal.Gen

/-- The scorer's square sum. -/
def squares (W : S256x1.Idx → EReal) : EReal := ∑ x : Fin 256, W (ix2 x (0 : Fin 1)) * W (ix2 x (0 : Fin 1))

/-- A row's score: its product with the scorer over the scorer's norm, and its mask. -/
def flat (E : S50000x256.Idx → EReal) (M : S50000x1.Idx → EReal) (W : S256x1.Idx → EReal) (n : Fin 50000) : EReal :=
  Ideal.div (∑ x : Fin 256, E (ix2 n x) * W (ix2 x (0 : Fin 1))) (Ideal.sqrt (squares W)) + M (ix2 n (0 : Fin 1))

/-- Over a positive root, the product with the reciprocal root is the quotient by the root. -/
theorem mul_rsqrt (d : EReal) {X : EReal} (h : 0 < Ideal.sqrt X) : d * Ideal.rsqrt X = Ideal.div d (Ideal.sqrt X) := by
  unfold Ideal.div
  rw [if_neg h.ne']
  congr 1
  induction X using EReal.rec with
  | bot => exact absurd h (not_lt_of_ge (show (⊥ : EReal) ≤ 0 from bot_le))
  | top => exact EReal.inv_top.symm
  | coe r =>
    have hs : Ideal.sqrt (r : EReal) = if r < 0 then ⊥ else ((Real.sqrt r : ℝ) : EReal) := rfl
    have hr : Ideal.rsqrt (r : EReal) = if r < 0 then ⊥ else if r = 0 then ⊤ else (((Real.sqrt r)⁻¹ : ℝ) : EReal) := rfl
    rw [hs] at h ⊢
    rw [hr]
    by_cases h0 : r < 0
    · rw [if_pos h0] at h
      exact absurd h (not_lt_of_ge bot_le)
    · rw [if_neg h0] at h ⊢
      have h1 : r ≠ 0 := by rintro rfl; simp at h
      rw [if_neg h0, if_neg h1, EReal.coe_inv]

theorem coords_val : ∀ t : Fin cfg0.N, (grid0.coords t 0).val = t.val :=
  (by decide +kernel : ∀ t : Fin grid0.N, (grid0.coords t 0).val = t.val)

variable (m : (ℓ : Loc nD τ sig) → Buf (Elt Ideal) ℓ) (c : Dev nD)

/-- Row `i` of the score buffer holds the scores of the rows of block `i`, and the least number past the last row. -/
theorem scores_apply (h : 0 < Ideal.sqrt (squares (scorer m c))) (i : Fin 32) (j : Fin 2048) :
    scores m c (ix2 i j) = if h : i.val * 2048 + j.val < 50000 then flat (emb m c) (mask m c) (scorer m c) ⟨_, h⟩ else (⊥ : EReal) := by
  obtain ⟨t, ht⟩ : ∃ t : Fin cfg0.N, t = ⟨i.val, row_lt (ix2 i j)⟩ := ⟨_, rfl⟩
  have hv : t.val = i.val := by rw [ht]
  have hm : t.val % 32 = i.val := by rw [hv, Nat.mod_eq_of_lt i.isLt]
  have hw : scorerAt m c t = scorer m c := by
    funext y
    obtain ⟨k, o, rfl⟩ : ∃ (k : Fin 256) (o : Fin 1), y = ix2 k o := ⟨_, _, eq_ix2 y⟩
    obtain rfl := Subsingleton.elim o 0
    exact scorer_read m c t k
  show rowAt m c ⟨i.val, row_lt (ix2 i j)⟩ (ix2 (0 : Fin 1) j) = _
  rw [← ht]
  unfold rowAt
  rw [pay1_apply, coords_val, hv, hw]
  by_cases hlt : i.val * 2048 + j.val < 50000
  · have hb : t.val % 32 * 2048 + j.val < 65536 := by omega
    rw [if_pos hlt, dif_pos hlt]
    unfold flat
    rw [← mul_rsqrt _ h]
    have he : ∀ x : Fin 256, embAt m c t (ix2 j x) = emb m c (ix2 (⟨i.val * 2048 + j.val, hlt⟩ : Fin 50000) x) := fun x => by
      rw [emb_read m c t j x hb, padded_emb]
      simp only [hm]
      rw [dif_pos hlt]
    have hk : maskAt m c t (ix2 j (0 : Fin 1)) = mask m c (ix2 (⟨i.val * 2048 + j.val, hlt⟩ : Fin 50000) (0 : Fin 1)) := by
      rw [mask_read m c t j hb, padded_mask]
      simp only [hm]
      rw [dif_pos hlt]
    rw [hk]
    simp only [he]
    rfl
  · rw [if_neg hlt, dif_neg hlt]

/-- The row chosen for column `k`. -/
def pick (k : Fin 2048) : Fin 50000 := Cert.TopK.sel (flat (emb m c) (mask m c) (scorer m c)) (k.castLE (by decide))

theorem topIx_apply (h : 0 < Ideal.sqrt (squares (scorer m c))) (k : Fin 2048) :
    topIx m c (ix2 (0 : Fin 1) k) = BitVec.ofNat 32 (pick m c k).val := by
  have := (Cert.TopK.topk_sel (scores m c) _ (scores_apply m c h) k).2
  unfold topIx chosenIx pick
  rw [← this]
  pointwise

theorem topGate_apply (h : 0 < Ideal.sqrt (squares (scorer m c))) (k : Fin 2048) :
    topGate m c (ix2 (0 : Fin 1) k) = Ideal.tanh (flat (emb m c) (mask m c) (scorer m c) (pick m c k)) := by
  have := (Cert.TopK.topk_sel (scores m c) _ (scores_apply m c h) k).1
  unfold topGate chosenGate pick
  rw [← this]
  pointwise [k0_pay2]

/-- A block's part is the chosen row scaled, where the chosen row lies in the block, and nothing elsewhere. -/
theorem part_apply (n : Nat) (hn : n < 32) (ix : S1x2048.Idx → BitVec 32) (g : S1x2048.Idx → EReal) (E : S2048x256.Idx → EReal) (f : Fin 256) (k : Fin 2048)
    (s : Nat) (hs : s < 65536) (hix : ix (ix2 (0 : Fin 1) k) = BitVec.ofNat 32 s) :
    part n ix g E f k = if h : n * 2048 ≤ s ∧ s < n * 2048 + 2048 then E (ix2 (⟨s - n * 2048, by omega⟩ : Fin 2048) f) * g (ix2 (0 : Fin 1) k) else 0 := by
  have hc : ∀ x : Fin 2048, BitVec.ofNat 32 (n * 2048 + x.val) = ix (ix2 (0 : Fin 1) k) ↔ n * 2048 + x.val = s := fun x => by
    rw [hix]
    constructor
    · intro hx
      have := congrArg BitVec.toNat hx
      rw [BitVec.toNat_ofNat, BitVec.toNat_ofNat, Nat.mod_eq_of_lt (by omega), Nat.mod_eq_of_lt (by omega)] at this
      exact this
    · rintro rfl; rfl
  unfold part
  simp only [hc]
  split
  next h =>
    rw [Finset.sum_eq_single (⟨s - n * 2048, by omega⟩ : Fin 2048) (fun x _ hx => if_neg fun he => hx (Fin.ext (by show x.val = s - n * 2048; omega)))
      (fun hx => absurd (Finset.mem_univ _) hx)]
    exact if_pos (by show n * 2048 + (s - n * 2048) = s; omega)
  next h => exact Finset.sum_eq_zero fun x _ => if_neg fun he => h (by omega)

/-- A chosen row, scaled by its gate. -/
def gated (f : Fin 256) (k : Fin 2048) : EReal := emb m c (ix2 (pick m c k) f) * Ideal.tanh (flat (emb m c) (mask m c) (scorer m c) (pick m c k))

/-- Gathering point `32 + n` adds the chosen rows that lie in block `n`. -/
theorem gather_part (h : 0 < Ideal.sqrt (squares (scorer m c))) (n : Nat) (hn : n < 32) (f : Fin 256) (k : Fin 2048) :
    k0_pay3 (F := Ideal) (grid0.coords (pt (32 + n))) (topIx m c) (topGate m c) (embAt m c (pt (32 + n))) (ix2 f k)
      = if n * 2048 ≤ (pick m c k).val ∧ (pick m c k).val < n * 2048 + 2048 then gated m c f k else 0 := by
  have hv : (pt (32 + n)).val = 32 + n := Nat.mod_eq_of_lt (by omega)
  have hm : (pt (32 + n)).val % 32 = n := by rw [hv]; omega
  have hp : (pick m c k).val < 50000 := (pick m c k).isLt
  rw [pay3_apply _ (by rw [coords_val, hv]; omega), coords_val, hv, Nat.add_sub_cancel_left,
    part_apply n hn _ _ _ f k (pick m c k).val (by omega) (topIx_apply m c h k), topGate_apply m c h]
  split
  next hin =>
    rw [emb_read m c _ _ f (by rw [hm]; show n * 2048 + ((pick m c k).val - n * 2048) < 65536; omega), padded_emb]
    have he : n * 2048 + ((pick m c k).val - n * 2048) = (pick m c k).val := by omega
    simp only [hm, he]
    rw [dif_pos hp, Fin.eta, gated]
  next hin => rfl

/-- After gathering point `n` the running result holds the chosen rows of the blocks up to `n`. -/
theorem acc_apply (h : 0 < Ideal.sqrt (squares (scorer m c))) (f : Fin 256) (k : Fin 2048) : ∀ n : Nat, n < 32 →
    acc m c n (ix2 f k) = if (pick m c k).val < n * 2048 + 2048 then gated m c f k else (0 : EReal)
  | 0, _ => by
    show k0_pay3 (grid0.coords (pt (32 + 0))) (topIx m c) (topGate m c) (embAt m c (pt (32 + 0))) (ix2 f k) = _
    rw [gather_part m c h 0 (by decide)]
    exact if_congr (by omega) rfl rfl
  | n + 1, hn => by
    show k0_pay4 (grid0.coords (pt (33 + n))) (topIx m c) (topGate m c) (embAt m c (pt (33 + n))) (acc m c n) (ix2 f k) = _
    rw [pay4_apply, acc_apply h f k n (by omega), show 33 + n = 32 + (n + 1) by omega, gather_part m c h (n + 1) hn]
    by_cases h1 : (pick m c k).val < n * 2048 + 2048
    · rw [if_pos h1, if_neg (by omega), if_pos (by omega), add_zero]
    · rw [if_neg h1, zero_add]
      exact if_congr (by omega) rfl rfl

/-- The kernel's result. -/
def result : S256x2048.Idx → EReal := fun y => gated m c (y 0 : Fin 256) (y 1 : Fin 2048)

theorem acc_last (h : 0 < Ideal.sqrt (squares (scorer m c))) : acc m c 31 = result m c := by
  funext y
  have hp : (pick m c (y 1 : Fin 2048)).val < 50000 := (pick m c (y 1 : Fin 2048)).isLt
  rw [eq_ix2 y]
  refine (acc_apply m c h (y 0 : Fin 256) (y 1 : Fin 2048) 31 (by decide)).trans (if_pos ?_)
  omega

/-! ## The result's array -/

theorem index_3 : ∀ t : Fin cfg0.N, (win0 3).index t = ![0, 0] := by decide +kernel

theorem last_flush : ∀ t : Fin cfg0.N, (cfg0.win 3).flush t = true → t.val = 63 := by decide +kernel
theorem after_3 (t : Fin cfg0.N) : (dats m 0 c).after 3 t = acc m c (t.val - 32) := by dsimp only [dats]

theorem out_array (h : 0 < Ideal.sqrt (squares (scorer m c))) : (dats m 0 c).arrAt 3 (cfgs 0).N = result m c := by
  refine (dats m 0 c).arrAt_eq_of_covers 3 _ (by decide +kernel) fun t hf y => ?_
  have ht : t.val = 63 := last_flush t hf
  blk_simp
  rw [after_3, ht]
  show acc m c 31 y = _
  rw [acc_last m c h]
  blk_ext [index_3 t]

end Cert.KernelIdeal.Gen

end
-- ==== Proof.Reference.lean ====
/-
  The reference's operations as one function of its three arguments, and its value at an index, at the extended reals.
-/
module

public import proofs.«01_k».proof.Proof.Value
public import proofs.«01_k».proof.Proof.Gen.ReferenceIdeal
public import Idealize.ShloMosaic.Lib.Pointwise
public import Idealize.ShloMosaic.Lib.IdealHost
public import Idealize.ShloMosaic.Lib.Routing.Ops
public import Idealize.ShloMosaic.Lib.Routing.OpsSet

@[expose] public section

set_option maxRecDepth 16384

noncomputable section

open Idealize.ShloMosaic Idealize.ShloMosaic.TcCoe Idealize.ShloMosaic.Tactic

namespace Cert.ReferenceIdeal.Gen

open Cert.KernelIdeal.Gen (flat squares)
open Facts₀

variable (E : FVec Ideal S50000x256 .f32) (M : FVec Ideal S50000x1 .f32) (W : FVec Ideal S256x1 .f32)

/-- The scorer's norm. -/
def norm : FVec Ideal S_ .f32 := Host.sqrt (Host.reduceAdd (mulf W W) (constant S_ .f32 0#32) reducesTo_S256x1_S_d0_1 h_S_)

/-- The scores, flat. -/
def scored : FVec Ideal S50000 .f32 :=
  shapeCast S50000 (addf (Host.divf (Host.dotGeneral dot_S50000x256_S256x1_S50000x1_1_0_0_1_n_n none E W)
    (broadcastInDim S50000x1 ![] bcast_S_S50000x1 (norm W))) M) shapeCasts_S50000x1_S50000

/-- The positions of the greatest scores. -/
def chosen : IVec S2048 32 := (Host.topK S2048 0 (FloatOps.cmpfTotal .gt) (scored E M W) sliceFits_S50000_S2048).2

/-- The positions with a negative one counted from the end. -/
def wrapped : IVec S2048x1 32 :=
  broadcastInDim S2048x1 ![0] bcast_S2048_S2048x1_0 (select (cmpi .slt (chosen E M W) (broadcastInDim S2048 ![] bcast_S_S2048 (constantI S_ 32 0#32)))
    (addi (chosen E M W) (broadcastInDim S2048 ![] bcast_S_S2048 (constantI S_ 32 50000#32))) (chosen E M W))

/-- The chosen rows, each scaled by the gate of its score, one in a column. -/
def refResult : FVec Ideal S256x2048 .f32 :=
  transpose S256x2048 [1, 0] (mulf (Host.gather gather_S50000x256_S2048x1_S2048x256_1_0_n_n_0_1_1256 E (wrapped E M W))
    (broadcastInDim S2048x256 ![0, 1] bcast_S2048x1_S2048x256_0_1
      (Host.tanh (shapeCast S2048x1 (Host.gather gather_S50000_S2048x1_S2048_n_0_n_n_0_1_1 (scored E M W) (wrapped E M W)) shapeCasts_S2048_S2048x1))))
    transposes_S2048x256_S256x2048_1_0

theorem scored_apply (n : Fin 50000) : scored E M W (ix1 n) = flat E M W n := by
  unfold scored norm flat squares
  pointwise
  simp only [Finset.univ_unique, Finset.sum_singleton]
  rfl

theorem chosen_apply (k : Fin 2048) : chosen E M W (ix1 k) = BitVec.ofNat 32 (Cert.TopK.sel (flat E M W) (k.castLE (by decide))).val := by
  have h := Cert.TopK.host_sel (by decide) (by decide) (scored E M W) sliceFits_S50000_S2048 k
  rw [show (fun n : Fin 50000 => scored E M W (ix1 n)) = flat E M W from funext (scored_apply E M W)] at h
  exact h

theorem wrapped_apply (k : Fin 2048) : wrapped E M W (ix2 k (0 : Fin 1)) = BitVec.ofNat 32 (Cert.TopK.sel (flat E M W) (k.castLE (by decide))).val := by
  unfold wrapped
  pointwise
  rw [chosen_apply]
  rw [show IntOp.cmpi CmpIPredicate.slt (BitVec.ofNat 32 (Cert.TopK.sel (flat E M W) (k.castLE (by decide))).val) 0#32 = 0#1 from ?_]
  · rfl
  show BitVec.ofBool ((BitVec.ofNat 32 _).slt (BitVec.ofNat 32 0)) = _
  rw [Cert.TopK.slt_ofNat _ _ (lt_trans (Fin.isLt _) (by decide)) (by decide), decide_eq_false (Nat.not_lt_zero _)]
  rfl

theorem refResult_apply (f : Fin 256) (k : Fin 2048) :
    refResult E M W (ix2 f k) = E (ix2 (Cert.TopK.sel (flat E M W) (k.castLE (by decide))) f) * Ideal.tanh (flat E M W (Cert.TopK.sel (flat E M W) (k.castLE (by decide)))) := by
  have h1 : Host.gather gather_S50000x256_S2048x1_S2048x256_1_0_n_n_0_1_1256 E (wrapped E M W) (ix2 k f) = E (ix2 (Cert.TopK.sel (flat E M W) (k.castLE (by decide))) f) :=
    Routing.gather_row gather_S50000x256_S2048x1_S2048x256_1_0_n_n_0_1_1256 rfl rfl rfl rfl rfl E (wrapped E M W) k f _ (wrapped_apply E M W k) (by decide)
  have h2 : Host.gather gather_S50000_S2048x1_S2048_n_0_n_n_0_1_1 (scored E M W) (wrapped E M W) (ix1 k) = flat E M W (Cert.TopK.sel (flat E M W) (k.castLE (by decide))) :=
    (Routing.gather_take1 gather_S50000_S2048x1_S2048_n_0_n_n_0_1_1 rfl rfl rfl rfl (scored E M W) (wrapped E M W) k _ (wrapped_apply E M W k) (by decide)).trans (scored_apply E M W _)
  unfold refResult
  pointwise
  rw [h1, h2]

end Cert.ReferenceIdeal.Gen

end
-- ==== Proof.Algebra.lean ====
/-
  The kernel and the reference compute the same result, where the scorer's norm is positive.
-/
module

public import proofs.«01_k».proof.Defs
public import proofs.«01_k».proof.Proof.Value
public import proofs.«01_k».proof.Proof.Reference
public import Idealize.ShloMosaic.Lib.WordArith
public import proofs.«01_k».proof.Proof.Frames
public import proofs.«01_k».proof.Proof.Gen.ReferenceIdeal
public import proofs.«01_k».proof.Proof.Gen.Pre_positive_norm
public import Idealize.ShloMosaic.Lib.Claim
public import Idealize.ShloMosaic.Lib.Pointwise
public import Idealize.ShloMosaic.Lib.IdealHost

@[expose] public section

set_option maxRecDepth 16384

noncomputable section

open Idealize.ShloMosaic Idealize.ShloMosaic.TcCoe Idealize.ShloMosaic.Tactic Idealize.SL.Sem

namespace Cert.Proof

theorem norm_pos (m : (ℓ : Loc Cert.KernelIdeal.nD Cert.KernelIdeal.τ Cert.KernelIdeal.sig) → Buf (Elt Ideal) ℓ)
    (h : Cert.Pre_KernelIdeal_positive_norm m) (c : Dev Cert.KernelIdeal.nD) :
    0 < Ideal.sqrt (Cert.KernelIdeal.Gen.squares (Cert.KernelIdeal.Gen.scorer m c)) := by
  have h0 := congrFun (h c) (fun a => a.elim0)
  revert h0
  show Cert.Pre_positive_norm.fn (F := Ideal) (Cert.KernelIdeal.Gen.emb m c) (Cert.KernelIdeal.Gen.mask m c) (Cert.KernelIdeal.Gen.scorer m c) _ = _ → _
  pointwise [Cert.Pre_positive_norm.fn, Cert.Pre_positive_norm.fn_norm]
  intro h1
  have h2 := of_decide_eq_true ((WordArith.ofBool_eq_one_iff _).mp h1)
  simp only [Finset.univ_unique, Finset.sum_singleton] at h2
  exact h2

theorem kernel_run (m : (ℓ : Loc Cert.KernelIdeal.nD Cert.KernelIdeal.τ Cert.KernelIdeal.sig) → Buf (Elt Ideal) ℓ) (g : Dev Cert.KernelIdeal.nD → PrngReg)
    (h : ∀ c, 0 < Ideal.sqrt (Cert.KernelIdeal.Gen.squares (Cert.KernelIdeal.Gen.scorer m c))) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v2) = Cert.KernelIdeal.Gen.result m c) := by
  refine (θ_run Cert.KernelIdeal.defs _ _).mono (fun r hr c => ?_) (Cert.KernelIdeal.Gen.run_main m g)
  exact ((hr.1 c).1 3).trans (Cert.KernelIdeal.Gen.out_array m c (h c))

theorem algebraic : Cert.algebraic_KernelIdeal_ReferenceIdeal_pre_positive_norm := by
  intro m g m' g' hpre hagree
  have hX := norm_pos m hpre
  refine ⟨fun c => Cert.KernelIdeal.Gen.result m c, ?_, ?_⟩
  · exact (θ_run Cert.KernelIdeal.defs _ _).mono (fun r hr c => ⟨hr.1 c, hr.2.1 c⟩) (θ_run_and (kernel_run m g hX) (ideal_frame m g trivial))
  · hlo_run
    show Cert.ReferenceIdeal.Gen.refResult (Cert.KernelIdeal.Gen.emb m _) (Cert.KernelIdeal.Gen.mask m _) (Cert.KernelIdeal.Gen.scorer m _) = _
    funext y
    obtain ⟨f, k, rfl⟩ : ∃ (f : Fin 256) (k : Fin 2048), y = ix2 f k := ⟨_, _, eq_ix2 y⟩
    exact Cert.ReferenceIdeal.Gen.refResult_apply _ _ _ f k

end Cert.Proof

end
-- ==== Proof.lean ====
/-
  The claims of this certificate, put together: the frames (Proof/Frames.lean), the preservation, which rewrites
  nothing, and the equation of the results (Proof/Algebra.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_positive_norm
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_positive_norm.Gen.facts, kernel_frame, ideal_frame,
    fun m g _ => ideal_frame m g trivial, reference_frame, fun m g _ => reference_frame m g trivial, trivial, algebraic⟩

end Cert.Proof

end
